-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_finite_KernelIdeal [hPre_rows_finite_KernelIdeal : Cert.Pre_rows_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_rows_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_finite_ReferenceIdeal [hPre_rows_finite_ReferenceIdeal : Cert.Pre_rows_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_rows_finite_KernelIdeal [hKernelIdeal : Cert.KernelIdeal.Facts] [hPre_rows_finite_KernelIdeal : Cert.Pre_rows_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_rows_finite_ReferenceIdeal [hReferenceIdeal : Cert.ReferenceIdeal.Facts] [hPre_rows_finite_ReferenceIdeal : Cert.Pre_rows_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_rows_finite_KernelIdeal [hKernelIdeal : Cert.KernelIdeal.Facts] [hReferenceIdeal : Cert.ReferenceIdeal.Facts] [hPre_rows_finite_KernelIdeal : Cert.Pre_rows_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_finite_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![1024, 32768]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_rows_finite_KernelIdeal : Cert.Pre_rows_finite_KernelIdeal.Facts) (hPre_rows_finite_ReferenceIdeal : Cert.Pre_rows_finite_ReferenceIdeal.Facts),
    quiescent_Kernel (hKernel := hKernel)
    ∧ quiescent_KernelIdeal (hKernelIdeal := hKernelIdeal)
    ∧ quiescent_KernelIdeal_pre_rows_finite_KernelIdeal (hKernelIdeal := hKernelIdeal) (hPre_rows_finite_KernelIdeal := hPre_rows_finite_KernelIdeal)
    ∧ quiescent_ReferenceIdeal (hReferenceIdeal := hReferenceIdeal)
    ∧ quiescent_ReferenceIdeal_pre_rows_finite_ReferenceIdeal (hReferenceIdeal := hReferenceIdeal) (hPre_rows_finite_ReferenceIdeal := hPre_rows_finite_ReferenceIdeal)
    ∧ preserves_Kernel_KernelIdeal
    ∧ algebraic_KernelIdeal_ReferenceIdeal_pre_rows_finite_KernelIdeal (hKernelIdeal := hKernelIdeal) (hReferenceIdeal := hReferenceIdeal) (hPre_rows_finite_KernelIdeal := hPre_rows_finite_KernelIdeal)
-- ==== Pre_rows_finite_KernelIdeal.lean ====
abbrev S1024x1024 : Shape := ⟨2, ![1024, 1024]⟩
abbrev S_ : Shape := ⟨0, ![]⟩
abbrev S1024 : Shape := ⟨1, ![1024]⟩

class Facts : Prop where
  reducesTo_S1024x1024_S1024_d1 : S1024x1024.ReducesTo [1] S1024
  h_S_ : 0 < S_.numel
  bcast_S_S1024 : S_.BroadcastsInDim S1024 (![] : Fin 0 → Fin S1024.rank)

variable [Facts]

def fn {F : FTy → Type} [FloatOps F] (main_arg0 : FVec F S1024x1024 .f32) : IVec S1024 1 :=
  let main_cst : FVec F S_ .f32 := constant S_ .f32 0xFF800000#32
  let main_v0 : FVec F S1024 .f32 := (fun x v => Host.reduce FloatOps.maximumf x v reducesTo_S1024x1024_S1024_d1 h_S_) main_arg0 main_cst
  let main_v1 : FVec F S1024 .f32 := Host.absf main_v0
  let main_cst_0 : FVec F S_ .f32 := constant S_ .f32 0x7F800000#32
  let main_v2 : FVec F S1024 .f32 := broadcastInDim S1024 ![] bcast_S_S1024 main_cst_0
  let main_v3 : IVec S1024 1 := cmpf .olt main_v1 main_v2
  main_v3
-- ==== Pre_rows_finite_ReferenceIdeal.lean ====
abbrev S1024x32768 : Shape := ⟨2, ![1024, 32768]⟩
abbrev S_ : Shape := ⟨0, ![]⟩
abbrev S1024 : Shape := ⟨1, ![1024]⟩

class Facts : Prop where
  reducesTo_S1024x32768_S1024_d1 : S1024x32768.ReducesTo [1] S1024
  h_S_ : 0 < S_.numel
  bcast_S_S1024 : S_.BroadcastsInDim S1024 (![] : Fin 0 → Fin S1024.rank)

variable [Facts]

def fn {F : FTy → Type} [FloatOps F] (main_arg0 : FVec F S1024x32768 .f32) : IVec S1024 1 :=
  let main_cst : FVec F S_ .f32 := constant S_ .f32 0xFF800000#32
  let main_v0 : FVec F S1024 .f32 := (fun x v => Host.reduce FloatOps.maximumf x v reducesTo_S1024x32768_S1024_d1 h_S_) main_arg0 main_cst
  let main_v1 : FVec F S1024 .f32 := Host.absf main_v0
  let main_cst_0 : FVec F S_ .f32 := constant S_ .f32 0x7F800000#32
  let main_v2 : FVec F S1024 .f32 := broadcastInDim S1024 ![] bcast_S_S1024 main_cst_0
  let main_v3 : IVec S1024 1 := cmpf .olt main_v1 main_v2
  main_v3
-- ==== Kernel.lean ====
abbrev S1024x1024 : Shape := ⟨2, ![1024, 1024]⟩
abbrev S32x2x8x128 : Shape := ⟨4, ![32, 2, 8, 128]⟩
abbrev S32 : Shape := ⟨1, ![32]⟩
abbrev S_ : Shape := ⟨0, ![]⟩
abbrev S8x128x1024 : Shape := ⟨3, ![8, 128, 1024]⟩
abbrev S8x128 : Shape := ⟨2, ![8, 128]⟩
abbrev S1x1x8x128 : Shape := ⟨4, ![1, 1, 8, 128]⟩
abbrev S1 : Shape := ⟨1, ![1]⟩
abbrev S8x128x1 : Shape := ⟨3, ![8, 128, 1]⟩
abbrev S32x1x8x128 : Shape := ⟨4, ![32, 1, 8, 128]⟩
abbrev S32x8x128 : Shape := ⟨3, ![32, 8, 128]⟩
abbrev S1x8x128 : Shape := ⟨3, ![1, 8, 128]⟩

abbrev nBuf : Space → Nat
  | .hbm => 2
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S32x2x8x128, .f32⟩
  | _, _ => ⟨S1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_285 : BitVec 32 := 1#32
  let v414 : BitVec 32 := Scalar.addi v2 c1_i32_285
  let c32_i32_286 : BitVec 32 := 32#32
  let c0_i32_287 : BitVec 32 := 0#32
  let v415 : BitVec 1 := Scalar.cmpi .eq c32_i32_286 c0_i32_287
  let c1_i32_288 : BitVec 32 := 1#32
  let v416 : BitVec 32 := Scalar.select v415 c1_i32_288 c32_i32_286
  let v417 : BitVec 32 := Scalar.remsi v414 v416
  let c0_i32_290 : BitVec 32 := 0#32
  let v419 : BitVec 1 := Scalar.cmpi .slt v417 c0_i32_290
  let c0_i32_291 : BitVec 32 := 0#32
  let v420 : BitVec 1 := Scalar.cmpi .slt v416 c0_i32_291
  let v421 : BitVec 1 := Scalar.xori v419 v420
  let c0_i32_289 : BitVec 32 := 0#32
  let v418 : BitVec 1 := Scalar.cmpi .ne v417 c0_i32_289
  let v422 : BitVec 1 := Scalar.andi v421 v418
  let v423 : BitVec 32 := Scalar.addi v417 v416
  let v424 : BitVec 32 := Scalar.select v422 v423 v417
  let c1_i32_298 : BitVec 32 := 1#32
  let v425 : BitVec 32 := Scalar.muli v424 c1_i32_298
  let v426 : BitVec 32 := Scalar.addi c0_i32_299 v425
  v426.toNat
def k0_dev33 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_304 : BitVec 32 := 2#32
  let v435 : BitVec 32 := Scalar.addi v2 c2_i32_304
  let c32_i32_305 : BitVec 32 := 32#32
  let c0_i32_306 : BitVec 32 := 0#32
  let v436 : BitVec 1 := Scalar.cmpi .eq c32_i32_305 c0_i32_306
  let c1_i32_307 : BitVec 32 := 1#32
  let v437 : BitVec 32 := Scalar.select v436 c1_i32_307 c32_i32_305
  let v438 : BitVec 32 := Scalar.remsi v435 v437
  let c0_i32_309 : BitVec 32 := 0#32
  let v440 : BitVec 1 := Scalar.cmpi .slt v438 c0_i32_309
  let c0_i32_310 : BitVec 32 := 0#32
  let v441 : BitVec 1 := Scalar.cmpi .slt v437 c0_i32_310
  let v442 : BitVec 1 := Scalar.xori v440 v441
  let c0_i32_308 : BitVec 32 := 0#32
  let v439 : BitVec 1 := Scalar.cmpi .ne v438 c0_i32_308
  let v443 : BitVec 1 := Scalar.andi v442 v439
  let v444 : BitVec 32 := Scalar.addi v438 v437
  let v445 : BitVec 32 := Scalar.select v443 v444 v438
  let c1_i32_317 : BitVec 32 := 1#32
  let v446 : BitVec 32 := Scalar.muli v445 c1_i32_317
  let v447 : BitVec 32 := Scalar.addi c0_i32_318 v446
  v447.toNat
def k0_dev34 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_323 : BitVec 32 := 3#32
  let v456 : BitVec 32 := Scalar.addi v2 c3_i32_323
  let c32_i32_324 : BitVec 32 := 32#32
  let c0_i32_325 : BitVec 32 := 0#32
  let v457 : BitVec 1 := Scalar.cmpi .eq c32_i32_324 c0_i32_325
  let c1_i32_326 : BitVec 32 := 1#32
  let v458 : BitVec 32 := Scalar.select v457 c1_i32_326 c32_i32_324
  let v459 : BitVec 32 := Scalar.remsi v456 v458
  let c0_i32_328 : BitVec 32 := 0#32
  let v461 : BitVec 1 := Scalar.cmpi .slt v459 c0_i32_328
  let c0_i32_329 : BitVec 32 := 0#32
  let v462 : BitVec 1 := Scalar.cmpi .slt v458 c0_i32_329
  let v463 : BitVec 1 := Scalar.xori v461 v462
  let c0_i32_327 : BitVec 32 := 0#32
  let v460 : BitVec 1 := Scalar.cmpi .ne v459 c0_i32_327
  let v464 : BitVec 1 := Scalar.andi v463 v460
  let v465 : BitVec 32 := Scalar.addi v459 v458
  let v466 : BitVec 32 := Scalar.select v464 v465 v459
  let c1_i32_336 : BitVec 32 := 1#32
  let v467 : BitVec 32 := Scalar.muli v466 c1_i32_336
  let v468 : BitVec 32 := Scalar.addi c0_i32_337 v467
  v468.toNat
def k0_dev35 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_342 : BitVec 32 := 4#32
  let v477 : BitVec 32 := Scalar.addi v2 c4_i32_342
  let c32_i32_343 : BitVec 32 := 32#32
  let c0_i32_344 : BitVec 32 := 0#32
  let v478 : BitVec 1 := Scalar.cmpi .eq c32_i32_343 c0_i32_344
  let c1_i32_345 : BitVec 32 := 1#32
  let v479 : BitVec 32 := Scalar.select v478 c1_i32_345 c32_i32_343
  let v480 : BitVec 32 := Scalar.remsi v477 v479
  let c0_i32_347 : BitVec 32 := 0#32
  let v482 : BitVec 1 := Scalar.cmpi .slt v480 c0_i32_347
  let c0_i32_348 : BitVec 32 := 0#32
  let v483 : BitVec 1 := Scalar.cmpi .slt v479 c0_i32_348
  let v484 : BitVec 1 := Scalar.xori v482 v483
  let c0_i32_346 : BitVec 32 := 0#32
  let v481 : BitVec 1 := Scalar.cmpi .ne v480 c0_i32_346
  let v485 : BitVec 1 := Scalar.andi v484 v481
  let v486 : BitVec 32 := Scalar.addi v480 v479
  let v487 : BitVec 32 := Scalar.select v485 v486 v480
  let c1_i32_355 : BitVec 32 := 1#32
  let v488 : BitVec 32 := Scalar.muli v487 c1_i32_355
  let v489 : BitVec 32 := Scalar.addi c0_i32_356 v488
  v489.toNat
def k0_dev36 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_361 : BitVec 32 := 5#32
  let v498 : BitVec 32 := Scalar.addi v2 c5_i32_361
  let c32_i32_362 : BitVec 32 := 32#32
  let c0_i32_363 : BitVec 32 := 0#32
  let v499 : BitVec 1 := Scalar.cmpi .eq c32_i32_362 c0_i32_363
  let c1_i32_364 : BitVec 32 := 1#32
  let v500 : BitVec 32 := Scalar.select v499 c1_i32_364 c32_i32_362
  let v501 : BitVec 32 := Scalar.remsi v498 v500
  let c0_i32_366 : BitVec 32 := 0#32
  let v503 : BitVec 1 := Scalar.cmpi .slt v501 c0_i32_366
  let c0_i32_367 : BitVec 32 := 0#32
  let v504 : BitVec 1 := Scalar.cmpi .slt v500 c0_i32_367
  let v505 : BitVec 1 := Scalar.xori v503 v504
  let c0_i32_365 : BitVec 32 := 0#32
  let v502 : BitVec 1 := Scalar.cmpi .ne v501 c0_i32_365
  let v506 : BitVec 1 := Scalar.andi v505 v502
  let v507 : BitVec 32 := Scalar.addi v501 v500
  let v508 : BitVec 32 := Scalar.select v506 v507 v501
  let c1_i32_374 : BitVec 32 := 1#32
  let v509 : BitVec 32 := Scalar.muli v508 c1_i32_374
  let v510 : BitVec 32 := Scalar.addi c0_i32_375 v509
  v510.toNat
def k0_dev37 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_380 : BitVec 32 := 6#32
  let v519 : BitVec 32 := Scalar.addi v2 c6_i32_380
  let c32_i32_381 : BitVec 32 := 32#32
  let c0_i32_382 : BitVec 32 := 0#32
  let v520 : BitVec 1 := Scalar.cmpi .eq c32_i32_381 c0_i32_382
  let c1_i32_383 : BitVec 32 := 1#32
  let v521 : BitVec 32 := Scalar.select v520 c1_i32_383 c32_i32_381
  let v522 : BitVec 32 := Scalar.remsi v519 v521
  let c0_i32_385 : BitVec 32 := 0#32
  let v524 : BitVec 1 := Scalar.cmpi .slt v522 c0_i32_385
  let c0_i32_386 : BitVec 32 := 0#32
  let v525 : BitVec 1 := Scalar.cmpi .slt v521 c0_i32_386
  let v526 : BitVec 1 := Scalar.xori v524 v525
  let c0_i32_384 : BitVec 32 := 0#32
  let v523 : BitVec 1 := Scalar.cmpi .ne v522 c0_i32_384
  let v527 : BitVec 1 := Scalar.andi v526 v523
  let v528 : BitVec 32 := Scalar.addi v522 v521
  let v529 : BitVec 32 := Scalar.select v527 v528 v522
  let c1_i32_393 : BitVec 32 := 1#32
  let v530 : BitVec 32 := Scalar.muli v529 c1_i32_393
  let v531 : BitVec 32 := Scalar.addi c0_i32_394 v530
  v531.toNat
def k0_dev38 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_399 : BitVec 32 := 7#32
  let v540 : BitVec 32 := Scalar.addi v2 c7_i32_399
  let c32_i32_400 : BitVec 32 := 32#32
  let c0_i32_401 : BitVec 32 := 0#32
  let v541 : BitVec 1 := Scalar.cmpi .eq c32_i32_400 c0_i32_401
  let c1_i32_402 : BitVec 32 := 1#32
  let v542 : BitVec 32 := Scalar.select v541 c1_i32_402 c32_i32_400
  let v543 : BitVec 32 := Scalar.remsi v540 v542
  let c0_i32_404 : BitVec 32 := 0#32
  let v545 : BitVec 1 := Scalar.cmpi .slt v543 c0_i32_404
  let c0_i32_405 : BitVec 32 := 0#32
  let v546 : BitVec 1 := Scalar.cmpi .slt v542 c0_i32_405
  let v547 : BitVec 1 := Scalar.xori v545 v546
  let c0_i32_403 : BitVec 32 := 0#32
  let v544 : BitVec 1 := Scalar.cmpi .ne v543 c0_i32_403
  let v548 : BitVec 1 := Scalar.andi v547 v544
  let v549 : BitVec 32 := Scalar.addi v543 v542
  let v550 : BitVec 32 := Scalar.select v548 v549 v543
  let c1_i32_412 : BitVec 32 := 1#32
  let v551 : BitVec 32 := Scalar.muli v550 c1_i32_412
  let v552 : BitVec 32 := Scalar.addi c0_i32_413 v551
  v552.toNat
def k0_dev39 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_418 : BitVec 32 := 8#32
  let v561 : BitVec 32 := Scalar.addi v2 c8_i32_418
  let c32_i32_419 : BitVec 32 := 32#32
  let c0_i32_420 : BitVec 32 := 0#32
  let v562 : BitVec 1 := Scalar.cmpi .eq c32_i32_419 c0_i32_420
  let c1_i32_421 : BitVec 32 := 1#32
  let v563 : BitVec 32 := Scalar.select v562 c1_i32_421 c32_i32_419
  let v564 : BitVec 32 := Scalar.remsi v561 v563
  let c0_i32_423 : BitVec 32 := 0#32
  let v566 : BitVec 1 := Scalar.cmpi .slt v564 c0_i32_423
  let c0_i32_424 : BitVec 32 := 0#32
  let v567 : BitVec 1 := Scalar.cmpi .slt v563 c0_i32_424
  let v568 : BitVec 1 := Scalar.xori v566 v567
  let c0_i32_422 : BitVec 32 := 0#32
  let v565 : BitVec 1 := Scalar.cmpi .ne v564 c0_i32_422
  let v569 : BitVec 1 := Scalar.andi v568 v565
  let v570 : BitVec 32 := Scalar.addi v564 v563
  let v571 : BitVec 32 := Scalar.select v569 v570 v564
  let c1_i32_431 : BitVec 32 := 1#32
  let v572 : BitVec 32 := Scalar.muli v571 c1_i32_431
  let v573 : BitVec 32 := Scalar.addi c0_i32_432 v572
  v573.toNat
def k0_dev40 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_437 : BitVec 32 := 9#32
  let v582 : BitVec 32 := Scalar.addi v2 c9_i32_437
  let c32_i32_438 : BitVec 32 := 32#32
  let c0_i32_439 : BitVec 32 := 0#32
  let v583 : BitVec 1 := Scalar.cmpi .eq c32_i32_438 c0_i32_439
  let c1_i32_440 : BitVec 32 := 1#32
  let v584 : BitVec 32 := Scalar.select v583 c1_i32_440 c32_i32_438
  let v585 : BitVec 32 := Scalar.remsi v582 v584
  let c0_i32_442 : BitVec 32 := 0#32
  let v587 : BitVec 1 := Scalar.cmpi .slt v585 c0_i32_442
  let c0_i32_443 : BitVec 32 := 0#32
  let v588 : BitVec 1 := Scalar.cmpi .slt v584 c0_i32_443
  let v589 : BitVec 1 := Scalar.xori v587 v588
  let c0_i32_441 : BitVec 32 := 0#32
  let v586 : BitVec 1 := Scalar.cmpi .ne v585 c0_i32_441
  let v590 : BitVec 1 := Scalar.andi v589 v586
  let v591 : BitVec 32 := Scalar.addi v585 v584
  let v592 : BitVec 32 := Scalar.select v590 v591 v585
  let c1_i32_450 : BitVec 32 := 1#32
  let v593 : BitVec 32 := Scalar.muli v592 c1_i32_450
  let v594 : BitVec 32 := Scalar.addi c0_i32_451 v593
  v594.toNat
def k0_dev41 (d0 : Dev nD) : Nat :=
  let c0_i32_470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_456 : BitVec 32 := 10#32
  let v603 : BitVec 32 := Scalar.addi v2 c10_i32_456
  let c32_i32_457 : BitVec 32 := 32#32
  let c0_i32_458 : BitVec 32 := 0#32
  let v604 : BitVec 1 := Scalar.cmpi .eq c32_i32_457 c0_i32_458
  let c1_i32_459 : BitVec 32 := 1#32
  let v605 : BitVec 32 := Scalar.select v604 c1_i32_459 c32_i32_457
  let v606 : BitVec 32 := Scalar.remsi v603 v605
  let c0_i32_461 : BitVec 32 := 0#32
  let v608 : BitVec 1 := Scalar.cmpi .slt v606 c0_i32_461
  let c0_i32_462 : BitVec 32 := 0#32
  let v609 : BitVec 1 := Scalar.cmpi .slt v605 c0_i32_462
  let v610 : BitVec 1 := Scalar.xori v608 v609
  let c0_i32_460 : BitVec 32 := 0#32
  let v607 : BitVec 1 := Scalar.cmpi .ne v606 c0_i32_460
  let v611 : BitVec 1 := Scalar.andi v610 v607
  let v612 : BitVec 32 := Scalar.addi v606 v605
  let v613 : BitVec 32 := Scalar.select v611 v612 v606
  let c1_i32_469 : BitVec 32 := 1#32
  let v614 : BitVec 32 := Scalar.muli v613 c1_i32_469
  let v615 : BitVec 32 := Scalar.addi c0_i32_470 v614
  v615.toNat
def k0_dev42 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_475 : BitVec 32 := 11#32
  let v624 : BitVec 32 := Scalar.addi v2 c11_i32_475
  let c32_i32_476 : BitVec 32 := 32#32
  let c0_i32_477 : BitVec 32 := 0#32
  let v625 : BitVec 1 := Scalar.cmpi .eq c32_i32_476 c0_i32_477
  let c1_i32_478 : BitVec 32 := 1#32
  let v626 : BitVec 32 := Scalar.select v625 c1_i32_478 c32_i32_476
  let v627 : BitVec 32 := Scalar.remsi v624 v626
  let c0_i32_480 : BitVec 32 := 0#32
  let v629 : BitVec 1 := Scalar.cmpi .slt v627 c0_i32_480
  let c0_i32_481 : BitVec 32 := 0#32
  let v630 : BitVec 1 := Scalar.cmpi .slt v626 c0_i32_481
  let v631 : BitVec 1 := Scalar.xori v629 v630
  let c0_i32_479 : BitVec 32 := 0#32
  let v628 : BitVec 1 := Scalar.cmpi .ne v627 c0_i32_479
  let v632 : BitVec 1 := Scalar.andi v631 v628
  let v633 : BitVec 32 := Scalar.addi v627 v626
  let v634 : BitVec 32 := Scalar.select v632 v633 v627
  let c1_i32_488 : BitVec 32 := 1#32
  let v635 : BitVec 32 := Scalar.muli v634 c1_i32_488
  let v636 : BitVec 32 := Scalar.addi c0_i32_489 v635
  v636.toNat
def k0_dev43 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_494 : BitVec 32 := 12#32
  let v645 : BitVec 32 := Scalar.addi v2 c12_i32_494
  let c32_i32_495 : BitVec 32 := 32#32
  let c0_i32_496 : BitVec 32 := 0#32
  let v646 : BitVec 1 := Scalar.cmpi .eq c32_i32_495 c0_i32_496
  let c1_i32_497 : BitVec 32 := 1#32
  let v647 : BitVec 32 := Scalar.select v646 c1_i32_497 c32_i32_495
  let v648 : BitVec 32 := Scalar.remsi v645 v647
  let c0_i32_499 : BitVec 32 := 0#32
  let v650 : BitVec 1 := Scalar.cmpi .slt v648 c0_i32_499
  let c0_i32_500 : BitVec 32 := 0#32
  let v651 : BitVec 1 := Scalar.cmpi .slt v647 c0_i32_500
  let v652 : BitVec 1 := Scalar.xori v650 v651
  let c0_i32_498 : BitVec 32 := 0#32
  let v649 : BitVec 1 := Scalar.cmpi .ne v648 c0_i32_498
  let v653 : BitVec 1 := Scalar.andi v652 v649
  let v654 : BitVec 32 := Scalar.addi v648 v647
  let v655 : BitVec 32 := Scalar.select v653 v654 v648
  let c1_i32_507 : BitVec 32 := 1#32
  let v656 : BitVec 32 := Scalar.muli v655 c1_i32_507
  let v657 : BitVec 32 := Scalar.addi c0_i32_508 v656
  v657.toNat
def k0_dev44 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_513 : BitVec 32 := 13#32
  let v666 : BitVec 32 := Scalar.addi v2 c13_i32_513
  let c32_i32_514 : BitVec 32 := 32#32
  let c0_i32_515 : BitVec 32 := 0#32
  let v667 : BitVec 1 := Scalar.cmpi .eq c32_i32_514 c0_i32_515
  let c1_i32_516 : BitVec 32 := 1#32
  let v668 : BitVec 32 := Scalar.select v667 c1_i32_516 c32_i32_514
  let v669 : BitVec 32 := Scalar.remsi v666 v668
  let c0_i32_518 : BitVec 32 := 0#32
  let v671 : BitVec 1 := Scalar.cmpi .slt v669 c0_i32_518
  let c0_i32_519 : BitVec 32 := 0#32
  let v672 : BitVec 1 := Scalar.cmpi .slt v668 c0_i32_519
  let v673 : BitVec 1 := Scalar.xori v671 v672
  let c0_i32_517 : BitVec 32 := 0#32
  let v670 : BitVec 1 := Scalar.cmpi .ne v669 c0_i32_517
  let v674 : BitVec 1 := Scalar.andi v673 v670
  let v675 : BitVec 32 := Scalar.addi v669 v668
  let v676 : BitVec 32 := Scalar.select v674 v675 v669
  let c1_i32_526 : BitVec 32 := 1#32
  let v677 : BitVec 32 := Scalar.muli v676 c1_i32_526
  let v678 : BitVec 32 := Scalar.addi c0_i32_527 v677
  v678.toNat
def k0_dev45 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_532 : BitVec 32 := 14#32
  let v687 : BitVec 32 := Scalar.addi v2 c14_i32_532
  let c32_i32_533 : BitVec 32 := 32#32
  let c0_i32_534 : BitVec 32 := 0#32
  let v688 : BitVec 1 := Scalar.cmpi .eq c32_i32_533 c0_i32_534
  let c1_i32_535 : BitVec 32 := 1#32
  let v689 : BitVec 32 := Scalar.select v688 c1_i32_535 c32_i32_533
  let v690 : BitVec 32 := Scalar.remsi v687 v689
  let c0_i32_537 : BitVec 32 := 0#32
  let v692 : BitVec 1 := Scalar.cmpi .slt v690 c0_i32_537
  let c0_i32_538 : BitVec 32 := 0#32
  let v693 : BitVec 1 := Scalar.cmpi .slt v689 c0_i32_538
  let v694 : BitVec 1 := Scalar.xori v692 v693
  let c0_i32_536 : BitVec 32 := 0#32
  let v691 : BitVec 1 := Scalar.cmpi .ne v690 c0_i32_536
  let v695 : BitVec 1 := Scalar.andi v694 v691
  let v696 : BitVec 32 := Scalar.addi v690 v689
  let v697 : BitVec 32 := Scalar.select v695 v696 v690
  let c1_i32_545 : BitVec 32 := 1#32
  let v698 : BitVec 32 := Scalar.muli v697 c1_i32_545
  let v699 : BitVec 32 := Scalar.addi c0_i32_546 v698
  v699.toNat
def k0_dev46 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_551 : BitVec 32 := 15#32
  let v708 : BitVec 32 := Scalar.addi v2 c15_i32_551
  let c32_i32_552 : BitVec 32 := 32#32
  let c0_i32_553 : BitVec 32 := 0#32
  let v709 : BitVec 1 := Scalar.cmpi .eq c32_i32_552 c0_i32_553
  let c1_i32_554 : BitVec 32 := 1#32
  let v710 : BitVec 32 := Scalar.select v709 c1_i32_554 c32_i32_552
  let v711 : BitVec 32 := Scalar.remsi v708 v710
  let c0_i32_556 : BitVec 32 := 0#32
  let v713 : BitVec 1 := Scalar.cmpi .slt v711 c0_i32_556
  let c0_i32_557 : BitVec 32 := 0#32
  let v714 : BitVec 1 := Scalar.cmpi .slt v710 c0_i32_557
  let v715 : BitVec 1 := Scalar.xori v713 v714
  let c0_i32_555 : BitVec 32 := 0#32
  let v712 : BitVec 1 := Scalar.cmpi .ne v711 c0_i32_555
  let v716 : BitVec 1 := Scalar.andi v715 v712
  let v717 : BitVec 32 := Scalar.addi v711 v710
  let v718 : BitVec 32 := Scalar.select v716 v717 v711
  let c1_i32_564 : BitVec 32 := 1#32
  let v719 : BitVec 32 := Scalar.muli v718 c1_i32_564
  let v720 : BitVec 32 := Scalar.addi c0_i32_565 v719
  v720.toNat
def k0_dev47 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_570 : BitVec 32 := 16#32
  let v729 : BitVec 32 := Scalar.addi v2 c16_i32_570
  let c32_i32_571 : BitVec 32 := 32#32
  let c0_i32_572 : BitVec 32 := 0#32
  let v730 : BitVec 1 := Scalar.cmpi .eq c32_i32_571 c0_i32_572
  let c1_i32_573 : BitVec 32 := 1#32
  let v731 : BitVec 32 := Scalar.select v730 c1_i32_573 c32_i32_571
  let v732 : BitVec 32 := Scalar.remsi v729 v731
  let c0_i32_575 : BitVec 32 := 0#32
  let v734 : BitVec 1 := Scalar.cmpi .slt v732 c0_i32_575
  let c0_i32_576 : BitVec 32 := 0#32
  let v735 : BitVec 1 := Scalar.cmpi .slt v731 c0_i32_576
  let v736 : BitVec 1 := Scalar.xori v734 v735
  let c0_i32_574 : BitVec 32 := 0#32
  let v733 : BitVec 1 := Scalar.cmpi .ne v732 c0_i32_574
  let v737 : BitVec 1 := Scalar.andi v736 v733
  let v738 : BitVec 32 := Scalar.addi v732 v731
  let v739 : BitVec 32 := Scalar.select v737 v738 v732
  let c1_i32_583 : BitVec 32 := 1#32
  let v740 : BitVec 32 := Scalar.muli v739 c1_i32_583
  let v741 : BitVec 32 := Scalar.addi c0_i32_584 v740
  v741.toNat
def k0_dev48 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_589 : BitVec 32 := 17#32
  let v750 : BitVec 32 := Scalar.addi v2 c17_i32_589
  let c32_i32_590 : BitVec 32 := 32#32
  let c0_i32_591 : BitVec 32 := 0#32
  let v751 : BitVec 1 := Scalar.cmpi .eq c32_i32_590 c0_i32_591
  let c1_i32_592 : BitVec 32 := 1#32
  let v752 : BitVec 32 := Scalar.select v751 c1_i32_592 c32_i32_590
  let v753 : BitVec 32 := Scalar.remsi v750 v752
  let c0_i32_594 : BitVec 32 := 0#32
  let v755 : BitVec 1 := Scalar.cmpi .slt v753 c0_i32_594
  let c0_i32_595 : BitVec 32 := 0#32
  let v756 : BitVec 1 := Scalar.cmpi .slt v752 c0_i32_595
  let v757 : BitVec 1 := Scalar.xori v755 v756
  let c0_i32_593 : BitVec 32 := 0#32
  let v754 : BitVec 1 := Scalar.cmpi .ne v753 c0_i32_593
  let v758 : BitVec 1 := Scalar.andi v757 v754
  let v759 : BitVec 32 := Scalar.addi v753 v752
  let v760 : BitVec 32 := Scalar.select v758 v759 v753
  let c1_i32_602 : BitVec 32 := 1#32
  let v761 : BitVec 32 := Scalar.muli v760 c1_i32_602
  let v762 : BitVec 32 := Scalar.addi c0_i32_603 v761
  v762.toNat
def k0_dev49 (d0 : Dev nD) : Nat :=
  let c0_i32_622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_608 : BitVec 32 := 18#32
  let v771 : BitVec 32 := Scalar.addi v2 c18_i32_608
  let c32_i32_609 : BitVec 32 := 32#32
  let c0_i32_610 : BitVec 32 := 0#32
  let v772 : BitVec 1 := Scalar.cmpi .eq c32_i32_609 c0_i32_610
  let c1_i32_611 : BitVec 32 := 1#32
  let v773 : BitVec 32 := Scalar.select v772 c1_i32_611 c32_i32_609
  let v774 : BitVec 32 := Scalar.remsi v771 v773
  let c0_i32_613 : BitVec 32 := 0#32
  let v776 : BitVec 1 := Scalar.cmpi .slt v774 c0_i32_613
  let c0_i32_614 : BitVec 32 := 0#32
  let v777 : BitVec 1 := Scalar.cmpi .slt v773 c0_i32_614
  let v778 : BitVec 1 := Scalar.xori v776 v777
  let c0_i32_612 : BitVec 32 := 0#32
  let v775 : BitVec 1 := Scalar.cmpi .ne v774 c0_i32_612
  let v779 : BitVec 1 := Scalar.andi v778 v775
  let v780 : BitVec 32 := Scalar.addi v774 v773
  let v781 : BitVec 32 := Scalar.select v779 v780 v774
  let c1_i32_621 : BitVec 32 := 1#32
  let v782 : BitVec 32 := Scalar.muli v781 c1_i32_621
  let v783 : BitVec 32 := Scalar.addi c0_i32_622 v782
  v783.toNat
def k0_dev50 (d0 : Dev nD) : Nat :=
  let c0_i32_641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_627 : BitVec 32 := 19#32
  let v792 : BitVec 32 := Scalar.addi v2 c19_i32_627
  let c32_i32_628 : BitVec 32 := 32#32
  let c0_i32_629 : BitVec 32 := 0#32
  let v793 : BitVec 1 := Scalar.cmpi .eq c32_i32_628 c0_i32_629
  let c1_i32_630 : BitVec 32 := 1#32
  let v794 : BitVec 32 := Scalar.select v793 c1_i32_630 c32_i32_628
  let v795 : BitVec 32 := Scalar.remsi v792 v794
  let c0_i32_632 : BitVec 32 := 0#32
  let v797 : BitVec 1 := Scalar.cmpi .slt v795 c0_i32_632
  let c0_i32_633 : BitVec 32 := 0#32
  let v798 : BitVec 1 := Scalar.cmpi .slt v794 c0_i32_633
  let v799 : BitVec 1 := Scalar.xori v797 v798
  let c0_i32_631 : BitVec 32 := 0#32
  let v796 : BitVec 1 := Scalar.cmpi .ne v795 c0_i32_631
  let v800 : BitVec 1 := Scalar.andi v799 v796
  let v801 : BitVec 32 := Scalar.addi v795 v794
  let v802 : BitVec 32 := Scalar.select v800 v801 v795
  let c1_i32_640 : BitVec 32 := 1#32
  let v803 : BitVec 32 := Scalar.muli v802 c1_i32_640
  let v804 : BitVec 32 := Scalar.addi c0_i32_641 v803
  v804.toNat
def k0_dev51 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_646 : BitVec 32 := 20#32
  let v813 : BitVec 32 := Scalar.addi v2 c20_i32_646
  let c32_i32_647 : BitVec 32 := 32#32
  let c0_i32_648 : BitVec 32 := 0#32
  let v814 : BitVec 1 := Scalar.cmpi .eq c32_i32_647 c0_i32_648
  let c1_i32_649 : BitVec 32 := 1#32
  let v815 : BitVec 32 := Scalar.select v814 c1_i32_649 c32_i32_647
  let v816 : BitVec 32 := Scalar.remsi v813 v815
  let c0_i32_651 : BitVec 32 := 0#32
  let v818 : BitVec 1 := Scalar.cmpi .slt v816 c0_i32_651
  let c0_i32_652 : BitVec 32 := 0#32
  let v819 : BitVec 1 := Scalar.cmpi .slt v815 c0_i32_652
  let v820 : BitVec 1 := Scalar.xori v818 v819
  let c0_i32_650 : BitVec 32 := 0#32
  let v817 : BitVec 1 := Scalar.cmpi .ne v816 c0_i32_650
  let v821 : BitVec 1 := Scalar.andi v820 v817
  let v822 : BitVec 32 := Scalar.addi v816 v815
  let v823 : BitVec 32 := Scalar.select v821 v822 v816
  let c1_i32_659 : BitVec 32 := 1#32
  let v824 : BitVec 32 := Scalar.muli v823 c1_i32_659
  let v825 : BitVec 32 := Scalar.addi c0_i32_660 v824
  v825.toNat
def k0_dev52 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_665 : BitVec 32 := 21#32
  let v834 : BitVec 32 := Scalar.addi v2 c21_i32_665
  let c32_i32_666 : BitVec 32 := 32#32
  let c0_i32_667 : BitVec 32 := 0#32
  let v835 : BitVec 1 := Scalar.cmpi .eq c32_i32_666 c0_i32_667
  let c1_i32_668 : BitVec 32 := 1#32
  let v836 : BitVec 32 := Scalar.select v835 c1_i32_668 c32_i32_666
  let v837 : BitVec 32 := Scalar.remsi v834 v836
  let c0_i32_670 : BitVec 32 := 0#32
  let v839 : BitVec 1 := Scalar.cmpi .slt v837 c0_i32_670
  let c0_i32_671 : BitVec 32 := 0#32
  let v840 : BitVec 1 := Scalar.cmpi .slt v836 c0_i32_671
  let v841 : BitVec 1 := Scalar.xori v839 v840
  let c0_i32_669 : BitVec 32 := 0#32
  let v838 : BitVec 1 := Scalar.cmpi .ne v837 c0_i32_669
  let v842 : BitVec 1 := Scalar.andi v841 v838
  let v843 : BitVec 32 := Scalar.addi v837 v836
  let v844 : BitVec 32 := Scalar.select v842 v843 v837
  let c1_i32_678 : BitVec 32 := 1#32
  let v845 : BitVec 32 := Scalar.muli v844 c1_i32_678
  let v846 : BitVec 32 := Scalar.addi c0_i32_679 v845
  v846.toNat
def k0_dev53 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_684 : BitVec 32 := 22#32
  let v855 : BitVec 32 := Scalar.addi v2 c22_i32_684
  let c32_i32_685 : BitVec 32 := 32#32
  let c0_i32_686 : BitVec 32 := 0#32
  let v856 : BitVec 1 := Scalar.cmpi .eq c32_i32_685 c0_i32_686
  let c1_i32_687 : BitVec 32 := 1#32
  let v857 : BitVec 32 := Scalar.select v856 c1_i32_687 c32_i32_685
  let v858 : BitVec 32 := Scalar.remsi v855 v857
  let c0_i32_689 : BitVec 32 := 0#32
  let v860 : BitVec 1 := Scalar.cmpi .slt v858 c0_i32_689
  let c0_i32_690 : BitVec 32 := 0#32
  let v861 : BitVec 1 := Scalar.cmpi .slt v857 c0_i32_690
  let v862 : BitVec 1 := Scalar.xori v860 v861
  let c0_i32_688 : BitVec 32 := 0#32
  let v859 : BitVec 1 := Scalar.cmpi .ne v858 c0_i32_688
  let v863 : BitVec 1 := Scalar.andi v862 v859
  let v864 : BitVec 32 := Scalar.addi v858 v857
  let v865 : BitVec 32 := Scalar.select v863 v864 v858
  let c1_i32_697 : BitVec 32 := 1#32
  let v866 : BitVec 32 := Scalar.muli v865 c1_i32_697
  let v867 : BitVec 32 := Scalar.addi c0_i32_698 v866
  v867.toNat
def k0_dev54 (d0 : Dev nD) : Nat :=
  let c0_i32_717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_703 : BitVec 32 := 23#32
  let v876 : BitVec 32 := Scalar.addi v2 c23_i32_703
  let c32_i32_704 : BitVec 32 := 32#32
  let c0_i32_705 : BitVec 32 := 0#32
  let v877 : BitVec 1 := Scalar.cmpi .eq c32_i32_704 c0_i32_705
  let c1_i32_706 : BitVec 32 := 1#32
  let v878 : BitVec 32 := Scalar.select v877 c1_i32_706 c32_i32_704
  let v879 : BitVec 32 := Scalar.remsi v876 v878
  let c0_i32_708 : BitVec 32 := 0#32
  let v881 : BitVec 1 := Scalar.cmpi .slt v879 c0_i32_708
  let c0_i32_709 : BitVec 32 := 0#32
  let v882 : BitVec 1 := Scalar.cmpi .slt v878 c0_i32_709
  let v883 : BitVec 1 := Scalar.xori v881 v882
  let c0_i32_707 : BitVec 32 := 0#32
  let v880 : BitVec 1 := Scalar.cmpi .ne v879 c0_i32_707
  let v884 : BitVec 1 := Scalar.andi v883 v880
  let v885 : BitVec 32 := Scalar.addi v879 v878
  let v886 : BitVec 32 := Scalar.select v884 v885 v879
  let c1_i32_716 : BitVec 32 := 1#32
  let v887 : BitVec 32 := Scalar.muli v886 c1_i32_716
  let v888 : BitVec 32 := Scalar.addi c0_i32_717 v887
  v888.toNat
def k0_dev55 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_722 : BitVec 32 := 24#32
  let v897 : BitVec 32 := Scalar.addi v2 c24_i32_722
  let c32_i32_723 : BitVec 32 := 32#32
  let c0_i32_724 : BitVec 32 := 0#32
  let v898 : BitVec 1 := Scalar.cmpi .eq c32_i32_723 c0_i32_724
  let c1_i32_725 : BitVec 32 := 1#32
  let v899 : BitVec 32 := Scalar.select v898 c1_i32_725 c32_i32_723
  let v900 : BitVec 32 := Scalar.remsi v897 v899
  let c0_i32_727 : BitVec 32 := 0#32
  let v902 : BitVec 1 := Scalar.cmpi .slt v900 c0_i32_727
  let c0_i32_728 : BitVec 32 := 0#32
  let v903 : BitVec 1 := Scalar.cmpi .slt v899 c0_i32_728
  let v904 : BitVec 1 := Scalar.xori v902 v903
  let c0_i32_726 : BitVec 32 := 0#32
  let v901 : BitVec 1 := Scalar.cmpi .ne v900 c0_i32_726
  let v905 : BitVec 1 := Scalar.andi v904 v901
  let v906 : BitVec 32 := Scalar.addi v900 v899
  let v907 : BitVec 32 := Scalar.select v905 v906 v900
  let c1_i32_735 : BitVec 32 := 1#32
  let v908 : BitVec 32 := Scalar.muli v907 c1_i32_735
  let v909 : BitVec 32 := Scalar.addi c0_i32_736 v908
  v909.toNat
def k0_dev56 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_741 : BitVec 32 := 25#32
  let v918 : BitVec 32 := Scalar.addi v2 c25_i32_741
  let c32_i32_742 : BitVec 32 := 32#32
  let c0_i32_743 : BitVec 32 := 0#32
  let v919 : BitVec 1 := Scalar.cmpi .eq c32_i32_742 c0_i32_743
  let c1_i32_744 : BitVec 32 := 1#32
  let v920 : BitVec 32 := Scalar.select v919 c1_i32_744 c32_i32_742
  let v921 : BitVec 32 := Scalar.remsi v918 v920
  let c0_i32_746 : BitVec 32 := 0#32
  let v923 : BitVec 1 := Scalar.cmpi .slt v921 c0_i32_746
  let c0_i32_747 : BitVec 32 := 0#32
  let v924 : BitVec 1 := Scalar.cmpi .slt v920 c0_i32_747
  let v925 : BitVec 1 := Scalar.xori v923 v924
  let c0_i32_745 : BitVec 32 := 0#32
  let v922 : BitVec 1 := Scalar.cmpi .ne v921 c0_i32_745
  let v926 : BitVec 1 := Scalar.andi v925 v922
  let v927 : BitVec 32 := Scalar.addi v921 v920
  let v928 : BitVec 32 := Scalar.select v926 v927 v921
  let c1_i32_754 : BitVec 32 := 1#32
  let v929 : BitVec 32 := Scalar.muli v928 c1_i32_754
  let v930 : BitVec 32 := Scalar.addi c0_i32_755 v929
  v930.toNat
def k0_dev57 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_760 : BitVec 32 := 26#32
  let v939 : BitVec 32 := Scalar.addi v2 c26_i32_760
  let c32_i32_761 : BitVec 32 := 32#32
  let c0_i32_762 : BitVec 32 := 0#32
  let v940 : BitVec 1 := Scalar.cmpi .eq c32_i32_761 c0_i32_762
  let c1_i32_763 : BitVec 32 := 1#32
  let v941 : BitVec 32 := Scalar.select v940 c1_i32_763 c32_i32_761
  let v942 : BitVec 32 := Scalar.remsi v939 v941
  let c0_i32_765 : BitVec 32 := 0#32
  let v944 : BitVec 1 := Scalar.cmpi .slt v942 c0_i32_765
  let c0_i32_766 : BitVec 32 := 0#32
  let v945 : BitVec 1 := Scalar.cmpi .slt v941 c0_i32_766
  let v946 : BitVec 1 := Scalar.xori v944 v945
  let c0_i32_764 : BitVec 32 := 0#32
  let v943 : BitVec 1 := Scalar.cmpi .ne v942 c0_i32_764
  let v947 : BitVec 1 := Scalar.andi v946 v943
  let v948 : BitVec 32 := Scalar.addi v942 v941
  let v949 : BitVec 32 := Scalar.select v947 v948 v942
  let c1_i32_773 : BitVec 32 := 1#32
  let v950 : BitVec 32 := Scalar.muli v949 c1_i32_773
  let v951 : BitVec 32 := Scalar.addi c0_i32_774 v950
  v951.toNat
def k0_dev58 (d0 : Dev nD) : Nat :=
  let c0_i32_793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_779 : BitVec 32 := 27#32
  let v960 : BitVec 32 := Scalar.addi v2 c27_i32_779
  let c32_i32_780 : BitVec 32 := 32#32
  let c0_i32_781 : BitVec 32 := 0#32
  let v961 : BitVec 1 := Scalar.cmpi .eq c32_i32_780 c0_i32_781
  let c1_i32_782 : BitVec 32 := 1#32
  let v962 : BitVec 32 := Scalar.select v961 c1_i32_782 c32_i32_780
  let v963 : BitVec 32 := Scalar.remsi v960 v962
  let c0_i32_784 : BitVec 32 := 0#32
  let v965 : BitVec 1 := Scalar.cmpi .slt v963 c0_i32_784
  let c0_i32_785 : BitVec 32 := 0#32
  let v966 : BitVec 1 := Scalar.cmpi .slt v962 c0_i32_785
  let v967 : BitVec 1 := Scalar.xori v965 v966
  let c0_i32_783 : BitVec 32 := 0#32
  let v964 : BitVec 1 := Scalar.cmpi .ne v963 c0_i32_783
  let v968 : BitVec 1 := Scalar.andi v967 v964
  let v969 : BitVec 32 := Scalar.addi v963 v962
  let v970 : BitVec 32 := Scalar.select v968 v969 v963
  let c1_i32_792 : BitVec 32 := 1#32
  let v971 : BitVec 32 := Scalar.muli v970 c1_i32_792
  let v972 : BitVec 32 := Scalar.addi c0_i32_793 v971
  v972.toNat
def k0_dev59 (d0 : Dev nD) : Nat :=
  let c0_i32_812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_798 : BitVec 32 := 28#32
  let v981 : BitVec 32 := Scalar.addi v2 c28_i32_798
  let c32_i32_799 : BitVec 32 := 32#32
  let c0_i32_800 : BitVec 32 := 0#32
  let v982 : BitVec 1 := Scalar.cmpi .eq c32_i32_799 c0_i32_800
  let c1_i32_801 : BitVec 32 := 1#32
  let v983 : BitVec 32 := Scalar.select v982 c1_i32_801 c32_i32_799
  let v984 : BitVec 32 := Scalar.remsi v981 v983
  let c0_i32_803 : BitVec 32 := 0#32
  let v986 : BitVec 1 := Scalar.cmpi .slt v984 c0_i32_803
  let c0_i32_804 : BitVec 32 := 0#32
  let v987 : BitVec 1 := Scalar.cmpi .slt v983 c0_i32_804
  let v988 : BitVec 1 := Scalar.xori v986 v987
  let c0_i32_802 : BitVec 32 := 0#32
  let v985 : BitVec 1 := Scalar.cmpi .ne v984 c0_i32_802
  let v989 : BitVec 1 := Scalar.andi v988 v985
  let v990 : BitVec 32 := Scalar.addi v984 v983
  let v991 : BitVec 32 := Scalar.select v989 v990 v984
  let c1_i32_811 : BitVec 32 := 1#32
  let v992 : BitVec 32 := Scalar.muli v991 c1_i32_811
  let v993 : BitVec 32 := Scalar.addi c0_i32_812 v992
  v993.toNat
def k0_dev60 (d0 : Dev nD) : Nat :=
  let c0_i32_831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_817 : BitVec 32 := 29#32
  let v1002 : BitVec 32 := Scalar.addi v2 c29_i32_817
  let c32_i32_818 : BitVec 32 := 32#32
  let c0_i32_819 : BitVec 32 := 0#32
  let v1003 : BitVec 1 := Scalar.cmpi .eq c32_i32_818 c0_i32_819
  let c1_i32_820 : BitVec 32 := 1#32
  let v1004 : BitVec 32 := Scalar.select v1003 c1_i32_820 c32_i32_818
  let v1005 : BitVec 32 := Scalar.remsi v1002 v1004
  let c0_i32_822 : BitVec 32 := 0#32
  let v1007 : BitVec 1 := Scalar.cmpi .slt v1005 c0_i32_822
  let c0_i32_823 : BitVec 32 := 0#32
  let v1008 : BitVec 1 := Scalar.cmpi .slt v1004 c0_i32_823
  let v1009 : BitVec 1 := Scalar.xori v1007 v1008
  let c0_i32_821 : BitVec 32 := 0#32
  let v1006 : BitVec 1 := Scalar.cmpi .ne v1005 c0_i32_821
  let v1010 : BitVec 1 := Scalar.andi v1009 v1006
  let v1011 : BitVec 32 := Scalar.addi v1005 v1004
  let v1012 : BitVec 32 := Scalar.select v1010 v1011 v1005
  let c1_i32_830 : BitVec 32 := 1#32
  let v1013 : BitVec 32 := Scalar.muli v1012 c1_i32_830
  let v1014 : BitVec 32 := Scalar.addi c0_i32_831 v1013
  v1014.toNat
def k0_dev61 (d0 : Dev nD) : Nat :=
  let c0_i32_850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_836 : BitVec 32 := 30#32
  let v1023 : BitVec 32 := Scalar.addi v2 c30_i32_836
  let c32_i32_837 : BitVec 32 := 32#32
  let c0_i32_838 : BitVec 32 := 0#32
  let v1024 : BitVec 1 := Scalar.cmpi .eq c32_i32_837 c0_i32_838
  let c1_i32_839 : BitVec 32 := 1#32
  let v1025 : BitVec 32 := Scalar.select v1024 c1_i32_839 c32_i32_837
  let v1026 : BitVec 32 := Scalar.remsi v1023 v1025
  let c0_i32_841 : BitVec 32 := 0#32
  let v1028 : BitVec 1 := Scalar.cmpi .slt v1026 c0_i32_841
  let c0_i32_842 : BitVec 32 := 0#32
  let v1029 : BitVec 1 := Scalar.cmpi .slt v1025 c0_i32_842
  let v1030 : BitVec 1 := Scalar.xori v1028 v1029
  let c0_i32_840 : BitVec 32 := 0#32
  let v1027 : BitVec 1 := Scalar.cmpi .ne v1026 c0_i32_840
  let v1031 : BitVec 1 := Scalar.andi v1030 v1027
  let v1032 : BitVec 32 := Scalar.addi v1026 v1025
  let v1033 : BitVec 32 := Scalar.select v1031 v1032 v1026
  let c1_i32_849 : BitVec 32 := 1#32
  let v1034 : BitVec 32 := Scalar.muli v1033 c1_i32_849
  let v1035 : BitVec 32 := Scalar.addi c0_i32_850 v1034
  v1035.toNat
def k0_dev62 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_855 : BitVec 32 := 31#32
  let v1044 : BitVec 32 := Scalar.addi v2 c31_i32_855
  let c32_i32_856 : BitVec 32 := 32#32
  let c0_i32_857 : BitVec 32 := 0#32
  let v1045 : BitVec 1 := Scalar.cmpi .eq c32_i32_856 c0_i32_857
  let c1_i32_858 : BitVec 32 := 1#32
  let v1046 : BitVec 32 := Scalar.select v1045 c1_i32_858 c32_i32_856
  let v1047 : BitVec 32 := Scalar.remsi v1044 v1046
  let c0_i32_860 : BitVec 32 := 0#32
  let v1049 : BitVec 1 := Scalar.cmpi .slt v1047 c0_i32_860
  let c0_i32_861 : BitVec 32 := 0#32
  let v1050 : BitVec 1 := Scalar.cmpi .slt v1046 c0_i32_861
  let v1051 : BitVec 1 := Scalar.xori v1049 v1050
  let c0_i32_859 : BitVec 32 := 0#32
  let v1048 : BitVec 1 := Scalar.cmpi .ne v1047 c0_i32_859
  let v1052 : BitVec 1 := Scalar.andi v1051 v1048
  let v1053 : BitVec 32 := Scalar.addi v1047 v1046
  let v1054 : BitVec 32 := Scalar.select v1052 v1053 v1047
  let c1_i32_868 : BitVec 32 := 1#32
  let v1055 : BitVec 32 := Scalar.muli v1054 c1_i32_868
  let v1056 : BitVec 32 := Scalar.addi c0_i32_869 v1055
  v1056.toNat
def k0_dev63 (d0 : Dev nD) : Nat :=
  let c0_i32_894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_880 : BitVec 32 := 1#32
  let v1075 : BitVec 32 := Scalar.addi v2 c1_i32_880
  let c32_i32_881 : BitVec 32 := 32#32
  let c0_i32_882 : BitVec 32 := 0#32
  let v1076 : BitVec 1 := Scalar.cmpi .eq c32_i32_881 c0_i32_882
  let c1_i32_883 : BitVec 32 := 1#32
  let v1077 : BitVec 32 := Scalar.select v1076 c1_i32_883 c32_i32_881
  let v1078 : BitVec 32 := Scalar.remsi v1075 v1077
  let c0_i32_885 : BitVec 32 := 0#32
  let v1080 : BitVec 1 := Scalar.cmpi .slt v1078 c0_i32_885
  let c0_i32_886 : BitVec 32 := 0#32
  let v1081 : BitVec 1 := Scalar.cmpi .slt v1077 c0_i32_886
  let v1082 : BitVec 1 := Scalar.xori v1080 v1081
  let c0_i32_884 : BitVec 32 := 0#32
  let v1079 : BitVec 1 := Scalar.cmpi .ne v1078 c0_i32_884
  let v1083 : BitVec 1 := Scalar.andi v1082 v1079
  let v1084 : BitVec 32 := Scalar.addi v1078 v1077
  let v1085 : BitVec 32 := Scalar.select v1083 v1084 v1078
  let c1_i32_893 : BitVec 32 := 1#32
  let v1086 : BitVec 32 := Scalar.muli v1085 c1_i32_893
  let v1087 : BitVec 32 := Scalar.addi c0_i32_894 v1086
  v1087.toNat
def k0_dev64 (d0 : Dev nD) : Nat :=
  let c0_i32_913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_899 : BitVec 32 := 2#32
  let v1096 : BitVec 32 := Scalar.addi v2 c2_i32_899
  let c32_i32_900 : BitVec 32 := 32#32
  let c0_i32_901 : BitVec 32 := 0#32
  let v1097 : BitVec 1 := Scalar.cmpi .eq c32_i32_900 c0_i32_901
  let c1_i32_902 : BitVec 32 := 1#32
  let v1098 : BitVec 32 := Scalar.select v1097 c1_i32_902 c32_i32_900
  let v1099 : BitVec 32 := Scalar.remsi v1096 v1098
  let c0_i32_904 : BitVec 32 := 0#32
  let v1101 : BitVec 1 := Scalar.cmpi .slt v1099 c0_i32_904
  let c0_i32_905 : BitVec 32 := 0#32
  let v1102 : BitVec 1 := Scalar.cmpi .slt v1098 c0_i32_905
  let v1103 : BitVec 1 := Scalar.xori v1101 v1102
  let c0_i32_903 : BitVec 32 := 0#32
  let v1100 : BitVec 1 := Scalar.cmpi .ne v1099 c0_i32_903
  let v1104 : BitVec 1 := Scalar.andi v1103 v1100
  let v1105 : BitVec 32 := Scalar.addi v1099 v1098
  let v1106 : BitVec 32 := Scalar.select v1104 v1105 v1099
  let c1_i32_912 : BitVec 32 := 1#32
  let v1107 : BitVec 32 := Scalar.muli v1106 c1_i32_912
  let v1108 : BitVec 32 := Scalar.addi c0_i32_913 v1107
  v1108.toNat
def k0_dev65 (d0 : Dev nD) : Nat :=
  let c0_i32_932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_918 : BitVec 32 := 3#32
  let v1117 : BitVec 32 := Scalar.addi v2 c3_i32_918
  let c32_i32_919 : BitVec 32 := 32#32
  let c0_i32_920 : BitVec 32 := 0#32
  let v1118 : BitVec 1 := Scalar.cmpi .eq c32_i32_919 c0_i32_920
  let c1_i32_921 : BitVec 32 := 1#32
  let v1119 : BitVec 32 := Scalar.select v1118 c1_i32_921 c32_i32_919
  let v1120 : BitVec 32 := Scalar.remsi v1117 v1119
  let c0_i32_923 : BitVec 32 := 0#32
  let v1122 : BitVec 1 := Scalar.cmpi .slt v1120 c0_i32_923
  let c0_i32_924 : BitVec 32 := 0#32
  let v1123 : BitVec 1 := Scalar.cmpi .slt v1119 c0_i32_924
  let v1124 : BitVec 1 := Scalar.xori v1122 v1123
  let c0_i32_922 : BitVec 32 := 0#32
  let v1121 : BitVec 1 := Scalar.cmpi .ne v1120 c0_i32_922
  let v1125 : BitVec 1 := Scalar.andi v1124 v1121
  let v1126 : BitVec 32 := Scalar.addi v1120 v1119
  let v1127 : BitVec 32 := Scalar.select v1125 v1126 v1120
  let c1_i32_931 : BitVec 32 := 1#32
  let v1128 : BitVec 32 := Scalar.muli v1127 c1_i32_931
  let v1129 : BitVec 32 := Scalar.addi c0_i32_932 v1128
  v1129.toNat
def k0_dev66 (d0 : Dev nD) : Nat :=
  let c0_i32_951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_937 : BitVec 32 := 4#32
  let v1138 : BitVec 32 := Scalar.addi v2 c4_i32_937
  let c32_i32_938 : BitVec 32 := 32#32
  let c0_i32_939 : BitVec 32 := 0#32
  let v1139 : BitVec 1 := Scalar.cmpi .eq c32_i32_938 c0_i32_939
  let c1_i32_940 : BitVec 32 := 1#32
  let v1140 : BitVec 32 := Scalar.select v1139 c1_i32_940 c32_i32_938
  let v1141 : BitVec 32 := Scalar.remsi v1138 v1140
  let c0_i32_942 : BitVec 32 := 0#32
  let v1143 : BitVec 1 := Scalar.cmpi .slt v1141 c0_i32_942
  let c0_i32_943 : BitVec 32 := 0#32
  let v1144 : BitVec 1 := Scalar.cmpi .slt v1140 c0_i32_943
  let v1145 : BitVec 1 := Scalar.xori v1143 v1144
  let c0_i32_941 : BitVec 32 := 0#32
  let v1142 : BitVec 1 := Scalar.cmpi .ne v1141 c0_i32_941
  let v1146 : BitVec 1 := Scalar.andi v1145 v1142
  let v1147 : BitVec 32 := Scalar.addi v1141 v1140
  let v1148 : BitVec 32 := Scalar.select v1146 v1147 v1141
  let c1_i32_950 : BitVec 32 := 1#32
  let v1149 : BitVec 32 := Scalar.muli v1148 c1_i32_950
  let v1150 : BitVec 32 := Scalar.addi c0_i32_951 v1149
  v1150.toNat
def k0_dev67 (d0 : Dev nD) : Nat :=
  let c0_i32_970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_956 : BitVec 32 := 5#32
  let v1159 : BitVec 32 := Scalar.addi v2 c5_i32_956
  let c32_i32_957 : BitVec 32 := 32#32
  let c0_i32_958 : BitVec 32 := 0#32
  let v1160 : BitVec 1 := Scalar.cmpi .eq c32_i32_957 c0_i32_958
  let c1_i32_959 : BitVec 32 := 1#32
  let v1161 : BitVec 32 := Scalar.select v1160 c1_i32_959 c32_i32_957
  let v1162 : BitVec 32 := Scalar.remsi v1159 v1161
  let c0_i32_961 : BitVec 32 := 0#32
  let v1164 : BitVec 1 := Scalar.cmpi .slt v1162 c0_i32_961
  let c0_i32_962 : BitVec 32 := 0#32
  let v1165 : BitVec 1 := Scalar.cmpi .slt v1161 c0_i32_962
  let v1166 : BitVec 1 := Scalar.xori v1164 v1165
  let c0_i32_960 : BitVec 32 := 0#32
  let v1163 : BitVec 1 := Scalar.cmpi .ne v1162 c0_i32_960
  let v1167 : BitVec 1 := Scalar.andi v1166 v1163
  let v1168 : BitVec 32 := Scalar.addi v1162 v1161
  let v1169 : BitVec 32 := Scalar.select v1167 v1168 v1162
  let c1_i32_969 : BitVec 32 := 1#32
  let v1170 : BitVec 32 := Scalar.muli v1169 c1_i32_969
  let v1171 : BitVec 32 := Scalar.addi c0_i32_970 v1170
  v1171.toNat
def k0_dev68 (d0 : Dev nD) : Nat :=
  let c0_i32_989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_975 : BitVec 32 := 6#32
  let v1180 : BitVec 32 := Scalar.addi v2 c6_i32_975
  let c32_i32_976 : BitVec 32 := 32#32
  let c0_i32_977 : BitVec 32 := 0#32
  let v1181 : BitVec 1 := Scalar.cmpi .eq c32_i32_976 c0_i32_977
  let c1_i32_978 : BitVec 32 := 1#32
  let v1182 : BitVec 32 := Scalar.select v1181 c1_i32_978 c32_i32_976
  let v1183 : BitVec 32 := Scalar.remsi v1180 v1182
  let c0_i32_980 : BitVec 32 := 0#32
  let v1185 : BitVec 1 := Scalar.cmpi .slt v1183 c0_i32_980
  let c0_i32_981 : BitVec 32 := 0#32
  let v1186 : BitVec 1 := Scalar.cmpi .slt v1182 c0_i32_981
  let v1187 : BitVec 1 := Scalar.xori v1185 v1186
  let c0_i32_979 : BitVec 32 := 0#32
  let v1184 : BitVec 1 := Scalar.cmpi .ne v1183 c0_i32_979
  let v1188 : BitVec 1 := Scalar.andi v1187 v1184
  let v1189 : BitVec 32 := Scalar.addi v1183 v1182
  let v1190 : BitVec 32 := Scalar.select v1188 v1189 v1183
  let c1_i32_988 : BitVec 32 := 1#32
  let v1191 : BitVec 32 := Scalar.muli v1190 c1_i32_988
  let v1192 : BitVec 32 := Scalar.addi c0_i32_989 v1191
  v1192.toNat
def k0_dev69 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_994 : BitVec 32 := 7#32
  let v1201 : BitVec 32 := Scalar.addi v2 c7_i32_994
  let c32_i32_995 : BitVec 32 := 32#32
  let c0_i32_996 : BitVec 32 := 0#32
  let v1202 : BitVec 1 := Scalar.cmpi .eq c32_i32_995 c0_i32_996
  let c1_i32_997 : BitVec 32 := 1#32
  let v1203 : BitVec 32 := Scalar.select v1202 c1_i32_997 c32_i32_995
  let v1204 : BitVec 32 := Scalar.remsi v1201 v1203
  let c0_i32_999 : BitVec 32 := 0#32
  let v1206 : BitVec 1 := Scalar.cmpi .slt v1204 c0_i32_999
  let c0_i32_1000 : BitVec 32 := 0#32
  let v1207 : BitVec 1 := Scalar.cmpi .slt v1203 c0_i32_1000
  let v1208 : BitVec 1 := Scalar.xori v1206 v1207
  let c0_i32_998 : BitVec 32 := 0#32
  let v1205 : BitVec 1 := Scalar.cmpi .ne v1204 c0_i32_998
  let v1209 : BitVec 1 := Scalar.andi v1208 v1205
  let v1210 : BitVec 32 := Scalar.addi v1204 v1203
  let v1211 : BitVec 32 := Scalar.select v1209 v1210 v1204
  let c1_i32_1007 : BitVec 32 := 1#32
  let v1212 : BitVec 32 := Scalar.muli v1211 c1_i32_1007
  let v1213 : BitVec 32 := Scalar.addi c0_i32_1008 v1212
  v1213.toNat
def k0_dev70 (d0 : Dev nD) : Nat :=
  let c0_i32_1027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1013 : BitVec 32 := 8#32
  let v1222 : BitVec 32 := Scalar.addi v2 c8_i32_1013
  let c32_i32_1014 : BitVec 32 := 32#32
  let c0_i32_1015 : BitVec 32 := 0#32
  let v1223 : BitVec 1 := Scalar.cmpi .eq c32_i32_1014 c0_i32_1015
  let c1_i32_1016 : BitVec 32 := 1#32
  let v1224 : BitVec 32 := Scalar.select v1223 c1_i32_1016 c32_i32_1014
  let v1225 : BitVec 32 := Scalar.remsi v1222 v1224
  let c0_i32_1018 : BitVec 32 := 0#32
  let v1227 : BitVec 1 := Scalar.cmpi .slt v1225 c0_i32_1018
  let c0_i32_1019 : BitVec 32 := 0#32
  let v1228 : BitVec 1 := Scalar.cmpi .slt v1224 c0_i32_1019
  let v1229 : BitVec 1 := Scalar.xori v1227 v1228
  let c0_i32_1017 : BitVec 32 := 0#32
  let v1226 : BitVec 1 := Scalar.cmpi .ne v1225 c0_i32_1017
  let v1230 : BitVec 1 := Scalar.andi v1229 v1226
  let v1231 : BitVec 32 := Scalar.addi v1225 v1224
  let v1232 : BitVec 32 := Scalar.select v1230 v1231 v1225
  let c1_i32_1026 : BitVec 32 := 1#32
  let v1233 : BitVec 32 := Scalar.muli v1232 c1_i32_1026
  let v1234 : BitVec 32 := Scalar.addi c0_i32_1027 v1233
  v1234.toNat
def k0_dev71 (d0 : Dev nD) : Nat :=
  let c0_i32_1046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1032 : BitVec 32 := 9#32
  let v1243 : BitVec 32 := Scalar.addi v2 c9_i32_1032
  let c32_i32_1033 : BitVec 32 := 32#32
  let c0_i32_1034 : BitVec 32 := 0#32
  let v1244 : BitVec 1 := Scalar.cmpi .eq c32_i32_1033 c0_i32_1034
  let c1_i32_1035 : BitVec 32 := 1#32
  let v1245 : BitVec 32 := Scalar.select v1244 c1_i32_1035 c32_i32_1033
  let v1246 : BitVec 32 := Scalar.remsi v1243 v1245
  let c0_i32_1037 : BitVec 32 := 0#32
  let v1248 : BitVec 1 := Scalar.cmpi .slt v1246 c0_i32_1037
  let c0_i32_1038 : BitVec 32 := 0#32
  let v1249 : BitVec 1 := Scalar.cmpi .slt v1245 c0_i32_1038
  let v1250 : BitVec 1 := Scalar.xori v1248 v1249
  let c0_i32_1036 : BitVec 32 := 0#32
  let v1247 : BitVec 1 := Scalar.cmpi .ne v1246 c0_i32_1036
  let v1251 : BitVec 1 := Scalar.andi v1250 v1247
  let v1252 : BitVec 32 := Scalar.addi v1246 v1245
  let v1253 : BitVec 32 := Scalar.select v1251 v1252 v1246
  let c1_i32_1045 : BitVec 32 := 1#32
  let v1254 : BitVec 32 := Scalar.muli v1253 c1_i32_1045
  let v1255 : BitVec 32 := Scalar.addi c0_i32_1046 v1254
  v1255.toNat
def k0_dev72 (d0 : Dev nD) : Nat :=
  let c0_i32_1065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1051 : BitVec 32 := 10#32
  let v1264 : BitVec 32 := Scalar.addi v2 c10_i32_1051
  let c32_i32_1052 : BitVec 32 := 32#32
  let c0_i32_1053 : BitVec 32 := 0#32
  let v1265 : BitVec 1 := Scalar.cmpi .eq c32_i32_1052 c0_i32_1053
  let c1_i32_1054 : BitVec 32 := 1#32
  let v1266 : BitVec 32 := Scalar.select v1265 c1_i32_1054 c32_i32_1052
  let v1267 : BitVec 32 := Scalar.remsi v1264 v1266
  let c0_i32_1056 : BitVec 32 := 0#32
  let v1269 : BitVec 1 := Scalar.cmpi .slt v1267 c0_i32_1056
  let c0_i32_1057 : BitVec 32 := 0#32
  let v1270 : BitVec 1 := Scalar.cmpi .slt v1266 c0_i32_1057
  let v1271 : BitVec 1 := Scalar.xori v1269 v1270
  let c0_i32_1055 : BitVec 32 := 0#32
  let v1268 : BitVec 1 := Scalar.cmpi .ne v1267 c0_i32_1055
  let v1272 : BitVec 1 := Scalar.andi v1271 v1268
  let v1273 : BitVec 32 := Scalar.addi v1267 v1266
  let v1274 : BitVec 32 := Scalar.select v1272 v1273 v1267
  let c1_i32_1064 : BitVec 32 := 1#32
  let v1275 : BitVec 32 := Scalar.muli v1274 c1_i32_1064
  let v1276 : BitVec 32 := Scalar.addi c0_i32_1065 v1275
  v1276.toNat
def k0_dev73 (d0 : Dev nD) : Nat :=
  let c0_i32_1084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1070 : BitVec 32 := 11#32
  let v1285 : BitVec 32 := Scalar.addi v2 c11_i32_1070
  let c32_i32_1071 : BitVec 32 := 32#32
  let c0_i32_1072 : BitVec 32 := 0#32
  let v1286 : BitVec 1 := Scalar.cmpi .eq c32_i32_1071 c0_i32_1072
  let c1_i32_1073 : BitVec 32 := 1#32
  let v1287 : BitVec 32 := Scalar.select v1286 c1_i32_1073 c32_i32_1071
  let v1288 : BitVec 32 := Scalar.remsi v1285 v1287
  let c0_i32_1075 : BitVec 32 := 0#32
  let v1290 : BitVec 1 := Scalar.cmpi .slt v1288 c0_i32_1075
  let c0_i32_1076 : BitVec 32 := 0#32
  let v1291 : BitVec 1 := Scalar.cmpi .slt v1287 c0_i32_1076
  let v1292 : BitVec 1 := Scalar.xori v1290 v1291
  let c0_i32_1074 : BitVec 32 := 0#32
  let v1289 : BitVec 1 := Scalar.cmpi .ne v1288 c0_i32_1074
  let v1293 : BitVec 1 := Scalar.andi v1292 v1289
  let v1294 : BitVec 32 := Scalar.addi v1288 v1287
  let v1295 : BitVec 32 := Scalar.select v1293 v1294 v1288
  let c1_i32_1083 : BitVec 32 := 1#32
  let v1296 : BitVec 32 := Scalar.muli v1295 c1_i32_1083
  let v1297 : BitVec 32 := Scalar.addi c0_i32_1084 v1296
  v1297.toNat
def k0_dev74 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1089 : BitVec 32 := 12#32
  let v1306 : BitVec 32 := Scalar.addi v2 c12_i32_1089
  let c32_i32_1090 : BitVec 32 := 32#32
  let c0_i32_1091 : BitVec 32 := 0#32
  let v1307 : BitVec 1 := Scalar.cmpi .eq c32_i32_1090 c0_i32_1091
  let c1_i32_1092 : BitVec 32 := 1#32
  let v1308 : BitVec 32 := Scalar.select v1307 c1_i32_1092 c32_i32_1090
  let v1309 : BitVec 32 := Scalar.remsi v1306 v1308
  let c0_i32_1094 : BitVec 32 := 0#32
  let v1311 : BitVec 1 := Scalar.cmpi .slt v1309 c0_i32_1094
  let c0_i32_1095 : BitVec 32 := 0#32
  let v1312 : BitVec 1 := Scalar.cmpi .slt v1308 c0_i32_1095
  let v1313 : BitVec 1 := Scalar.xori v1311 v1312
  let c0_i32_1093 : BitVec 32 := 0#32
  let v1310 : BitVec 1 := Scalar.cmpi .ne v1309 c0_i32_1093
  let v1314 : BitVec 1 := Scalar.andi v1313 v1310
  let v1315 : BitVec 32 := Scalar.addi v1309 v1308
  let v1316 : BitVec 32 := Scalar.select v1314 v1315 v1309
  let c1_i32_1102 : BitVec 32 := 1#32
  let v1317 : BitVec 32 := Scalar.muli v1316 c1_i32_1102
  let v1318 : BitVec 32 := Scalar.addi c0_i32_1103 v1317
  v1318.toNat
def k0_dev75 (d0 : Dev nD) : Nat :=
  let c0_i32_1122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1108 : BitVec 32 := 13#32
  let v1327 : BitVec 32 := Scalar.addi v2 c13_i32_1108
  let c32_i32_1109 : BitVec 32 := 32#32
  let c0_i32_1110 : BitVec 32 := 0#32
  let v1328 : BitVec 1 := Scalar.cmpi .eq c32_i32_1109 c0_i32_1110
  let c1_i32_1111 : BitVec 32 := 1#32
  let v1329 : BitVec 32 := Scalar.select v1328 c1_i32_1111 c32_i32_1109
  let v1330 : BitVec 32 := Scalar.remsi v1327 v1329
  let c0_i32_1113 : BitVec 32 := 0#32
  let v1332 : BitVec 1 := Scalar.cmpi .slt v1330 c0_i32_1113
  let c0_i32_1114 : BitVec 32 := 0#32
  let v1333 : BitVec 1 := Scalar.cmpi .slt v1329 c0_i32_1114
  let v1334 : BitVec 1 := Scalar.xori v1332 v1333
  let c0_i32_1112 : BitVec 32 := 0#32
  let v1331 : BitVec 1 := Scalar.cmpi .ne v1330 c0_i32_1112
  let v1335 : BitVec 1 := Scalar.andi v1334 v1331
  let v1336 : BitVec 32 := Scalar.addi v1330 v1329
  let v1337 : BitVec 32 := Scalar.select v1335 v1336 v1330
  let c1_i32_1121 : BitVec 32 := 1#32
  let v1338 : BitVec 32 := Scalar.muli v1337 c1_i32_1121
  let v1339 : BitVec 32 := Scalar.addi c0_i32_1122 v1338
  v1339.toNat
def k0_dev76 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1127 : BitVec 32 := 14#32
  let v1348 : BitVec 32 := Scalar.addi v2 c14_i32_1127
  let c32_i32_1128 : BitVec 32 := 32#32
  let c0_i32_1129 : BitVec 32 := 0#32
  let v1349 : BitVec 1 := Scalar.cmpi .eq c32_i32_1128 c0_i32_1129
  let c1_i32_1130 : BitVec 32 := 1#32
  let v1350 : BitVec 32 := Scalar.select v1349 c1_i32_1130 c32_i32_1128
  let v1351 : BitVec 32 := Scalar.remsi v1348 v1350
  let c0_i32_1132 : BitVec 32 := 0#32
  let v1353 : BitVec 1 := Scalar.cmpi .slt v1351 c0_i32_1132
  let c0_i32_1133 : BitVec 32 := 0#32
  let v1354 : BitVec 1 := Scalar.cmpi .slt v1350 c0_i32_1133
  let v1355 : BitVec 1 := Scalar.xori v1353 v1354
  let c0_i32_1131 : BitVec 32 := 0#32
  let v1352 : BitVec 1 := Scalar.cmpi .ne v1351 c0_i32_1131
  let v1356 : BitVec 1 := Scalar.andi v1355 v1352
  let v1357 : BitVec 32 := Scalar.addi v1351 v1350
  let v1358 : BitVec 32 := Scalar.select v1356 v1357 v1351
  let c1_i32_1140 : BitVec 32 := 1#32
  let v1359 : BitVec 32 := Scalar.muli v1358 c1_i32_1140
  let v1360 : BitVec 32 := Scalar.addi c0_i32_1141 v1359
  v1360.toNat
def k0_dev77 (d0 : Dev nD) : Nat :=
  let c0_i32_1160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1146 : BitVec 32 := 15#32
  let v1369 : BitVec 32 := Scalar.addi v2 c15_i32_1146
  let c32_i32_1147 : BitVec 32 := 32#32
  let c0_i32_1148 : BitVec 32 := 0#32
  let v1370 : BitVec 1 := Scalar.cmpi .eq c32_i32_1147 c0_i32_1148
  let c1_i32_1149 : BitVec 32 := 1#32
  let v1371 : BitVec 32 := Scalar.select v1370 c1_i32_1149 c32_i32_1147
  let v1372 : BitVec 32 := Scalar.remsi v1369 v1371
  let c0_i32_1151 : BitVec 32 := 0#32
  let v1374 : BitVec 1 := Scalar.cmpi .slt v1372 c0_i32_1151
  let c0_i32_1152 : BitVec 32 := 0#32
  let v1375 : BitVec 1 := Scalar.cmpi .slt v1371 c0_i32_1152
  let v1376 : BitVec 1 := Scalar.xori v1374 v1375
  let c0_i32_1150 : BitVec 32 := 0#32
  let v1373 : BitVec 1 := Scalar.cmpi .ne v1372 c0_i32_1150
  let v1377 : BitVec 1 := Scalar.andi v1376 v1373
  let v1378 : BitVec 32 := Scalar.addi v1372 v1371
  let v1379 : BitVec 32 := Scalar.select v1377 v1378 v1372
  let c1_i32_1159 : BitVec 32 := 1#32
  let v1380 : BitVec 32 := Scalar.muli v1379 c1_i32_1159
  let v1381 : BitVec 32 := Scalar.addi c0_i32_1160 v1380
  v1381.toNat
def k0_dev78 (d0 : Dev nD) : Nat :=
  let c0_i32_1179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1165 : BitVec 32 := 16#32
  let v1390 : BitVec 32 := Scalar.addi v2 c16_i32_1165
  let c32_i32_1166 : BitVec 32 := 32#32
  let c0_i32_1167 : BitVec 32 := 0#32
  let v1391 : BitVec 1 := Scalar.cmpi .eq c32_i32_1166 c0_i32_1167
  let c1_i32_1168 : BitVec 32 := 1#32
  let v1392 : BitVec 32 := Scalar.select v1391 c1_i32_1168 c32_i32_1166
  let v1393 : BitVec 32 := Scalar.remsi v1390 v1392
  let c0_i32_1170 : BitVec 32 := 0#32
  let v1395 : BitVec 1 := Scalar.cmpi .slt v1393 c0_i32_1170
  let c0_i32_1171 : BitVec 32 := 0#32
  let v1396 : BitVec 1 := Scalar.cmpi .slt v1392 c0_i32_1171
  let v1397 : BitVec 1 := Scalar.xori v1395 v1396
  let c0_i32_1169 : BitVec 32 := 0#32
  let v1394 : BitVec 1 := Scalar.cmpi .ne v1393 c0_i32_1169
  let v1398 : BitVec 1 := Scalar.andi v1397 v1394
  let v1399 : BitVec 32 := Scalar.addi v1393 v1392
  let v1400 : BitVec 32 := Scalar.select v1398 v1399 v1393
  let c1_i32_1178 : BitVec 32 := 1#32
  let v1401 : BitVec 32 := Scalar.muli v1400 c1_i32_1178
  let v1402 : BitVec 32 := Scalar.addi c0_i32_1179 v1401
  v1402.toNat
def k0_dev79 (d0 : Dev nD) : Nat :=
  let c0_i32_1198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1184 : BitVec 32 := 17#32
  let v1411 : BitVec 32 := Scalar.addi v2 c17_i32_1184
  let c32_i32_1185 : BitVec 32 := 32#32
  let c0_i32_1186 : BitVec 32 := 0#32
  let v1412 : BitVec 1 := Scalar.cmpi .eq c32_i32_1185 c0_i32_1186
  let c1_i32_1187 : BitVec 32 := 1#32
  let v1413 : BitVec 32 := Scalar.select v1412 c1_i32_1187 c32_i32_1185
  let v1414 : BitVec 32 := Scalar.remsi v1411 v1413
  let c0_i32_1189 : BitVec 32 := 0#32
  let v1416 : BitVec 1 := Scalar.cmpi .slt v1414 c0_i32_1189
  let c0_i32_1190 : BitVec 32 := 0#32
  let v1417 : BitVec 1 := Scalar.cmpi .slt v1413 c0_i32_1190
  let v1418 : BitVec 1 := Scalar.xori v1416 v1417
  let c0_i32_1188 : BitVec 32 := 0#32
  let v1415 : BitVec 1 := Scalar.cmpi .ne v1414 c0_i32_1188
  let v1419 : BitVec 1 := Scalar.andi v1418 v1415
  let v1420 : BitVec 32 := Scalar.addi v1414 v1413
  let v1421 : BitVec 32 := Scalar.select v1419 v1420 v1414
  let c1_i32_1197 : BitVec 32 := 1#32
  let v1422 : BitVec 32 := Scalar.muli v1421 c1_i32_1197
  let v1423 : BitVec 32 := Scalar.addi c0_i32_1198 v1422
  v1423.toNat
def k0_dev80 (d0 : Dev nD) : Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1203 : BitVec 32 := 18#32
  let v1432 : BitVec 32 := Scalar.addi v2 c18_i32_1203
  let c32_i32_1204 : BitVec 32 := 32#32
  let c0_i32_1205 : BitVec 32 := 0#32
  let v1433 : BitVec 1 := Scalar.cmpi .eq c32_i32_1204 c0_i32_1205
  let c1_i32_1206 : BitVec 32 := 1#32
  let v1434 : BitVec 32 := Scalar.select v1433 c1_i32_1206 c32_i32_1204
  let v1435 : BitVec 32 := Scalar.remsi v1432 v1434
  let c0_i32_1208 : BitVec 32 := 0#32
  let v1437 : BitVec 1 := Scalar.cmpi .slt v1435 c0_i32_1208
  let c0_i32_1209 : BitVec 32 := 0#32
  let v1438 : BitVec 1 := Scalar.cmpi .slt v1434 c0_i32_1209
  let v1439 : BitVec 1 := Scalar.xori v1437 v1438
  let c0_i32_1207 : BitVec 32 := 0#32
  let v1436 : BitVec 1 := Scalar.cmpi .ne v1435 c0_i32_1207
  let v1440 : BitVec 1 := Scalar.andi v1439 v1436
  let v1441 : BitVec 32 := Scalar.addi v1435 v1434
  let v1442 : BitVec 32 := Scalar.select v1440 v1441 v1435
  let c1_i32_1216 : BitVec 32 := 1#32
  let v1443 : BitVec 32 := Scalar.muli v1442 c1_i32_1216
  let v1444 : BitVec 32 := Scalar.addi c0_i32_1217 v1443
  v1444.toNat
def k0_dev81 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1222 : BitVec 32 := 19#32
  let v1453 : BitVec 32 := Scalar.addi v2 c19_i32_1222
  let c32_i32_1223 : BitVec 32 := 32#32
  let c0_i32_1224 : BitVec 32 := 0#32
  let v1454 : BitVec 1 := Scalar.cmpi .eq c32_i32_1223 c0_i32_1224
  let c1_i32_1225 : BitVec 32 := 1#32
  let v1455 : BitVec 32 := Scalar.select v1454 c1_i32_1225 c32_i32_1223
  let v1456 : BitVec 32 := Scalar.remsi v1453 v1455
  let c0_i32_1227 : BitVec 32 := 0#32
  let v1458 : BitVec 1 := Scalar.cmpi .slt v1456 c0_i32_1227
  let c0_i32_1228 : BitVec 32 := 0#32
  let v1459 : BitVec 1 := Scalar.cmpi .slt v1455 c0_i32_1228
  let v1460 : BitVec 1 := Scalar.xori v1458 v1459
  let c0_i32_1226 : BitVec 32 := 0#32
  let v1457 : BitVec 1 := Scalar.cmpi .ne v1456 c0_i32_1226
  let v1461 : BitVec 1 := Scalar.andi v1460 v1457
  let v1462 : BitVec 32 := Scalar.addi v1456 v1455
  let v1463 : BitVec 32 := Scalar.select v1461 v1462 v1456
  let c1_i32_1235 : BitVec 32 := 1#32
  let v1464 : BitVec 32 := Scalar.muli v1463 c1_i32_1235
  let v1465 : BitVec 32 := Scalar.addi c0_i32_1236 v1464
  v1465.toNat
def k0_dev82 (d0 : Dev nD) : Nat :=
  let c0_i32_1255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1241 : BitVec 32 := 20#32
  let v1474 : BitVec 32 := Scalar.addi v2 c20_i32_1241
  let c32_i32_1242 : BitVec 32 := 32#32
  let c0_i32_1243 : BitVec 32 := 0#32
  let v1475 : BitVec 1 := Scalar.cmpi .eq c32_i32_1242 c0_i32_1243
  let c1_i32_1244 : BitVec 32 := 1#32
  let v1476 : BitVec 32 := Scalar.select v1475 c1_i32_1244 c32_i32_1242
  let v1477 : BitVec 32 := Scalar.remsi v1474 v1476
  let c0_i32_1246 : BitVec 32 := 0#32
  let v1479 : BitVec 1 := Scalar.cmpi .slt v1477 c0_i32_1246
  let c0_i32_1247 : BitVec 32 := 0#32
  let v1480 : BitVec 1 := Scalar.cmpi .slt v1476 c0_i32_1247
  let v1481 : BitVec 1 := Scalar.xori v1479 v1480
  let c0_i32_1245 : BitVec 32 := 0#32
  let v1478 : BitVec 1 := Scalar.cmpi .ne v1477 c0_i32_1245
  let v1482 : BitVec 1 := Scalar.andi v1481 v1478
  let v1483 : BitVec 32 := Scalar.addi v1477 v1476
  let v1484 : BitVec 32 := Scalar.select v1482 v1483 v1477
  let c1_i32_1254 : BitVec 32 := 1#32
  let v1485 : BitVec 32 := Scalar.muli v1484 c1_i32_1254
  let v1486 : BitVec 32 := Scalar.addi c0_i32_1255 v1485
  v1486.toNat
def k0_dev83 (d0 : Dev nD) : Nat :=
  let c0_i32_1274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1260 : BitVec 32 := 21#32
  let v1495 : BitVec 32 := Scalar.addi v2 c21_i32_1260
  let c32_i32_1261 : BitVec 32 := 32#32
  let c0_i32_1262 : BitVec 32 := 0#32
  let v1496 : BitVec 1 := Scalar.cmpi .eq c32_i32_1261 c0_i32_1262
  let c1_i32_1263 : BitVec 32 := 1#32
  let v1497 : BitVec 32 := Scalar.select v1496 c1_i32_1263 c32_i32_1261
  let v1498 : BitVec 32 := Scalar.remsi v1495 v1497
  let c0_i32_1265 : BitVec 32 := 0#32
  let v1500 : BitVec 1 := Scalar.cmpi .slt v1498 c0_i32_1265
  let c0_i32_1266 : BitVec 32 := 0#32
  let v1501 : BitVec 1 := Scalar.cmpi .slt v1497 c0_i32_1266
  let v1502 : BitVec 1 := Scalar.xori v1500 v1501
  let c0_i32_1264 : BitVec 32 := 0#32
  let v1499 : BitVec 1 := Scalar.cmpi .ne v1498 c0_i32_1264
  let v1503 : BitVec 1 := Scalar.andi v1502 v1499
  let v1504 : BitVec 32 := Scalar.addi v1498 v1497
  let v1505 : BitVec 32 := Scalar.select v1503 v1504 v1498
  let c1_i32_1273 : BitVec 32 := 1#32
  let v1506 : BitVec 32 := Scalar.muli v1505 c1_i32_1273
  let v1507 : BitVec 32 := Scalar.addi c0_i32_1274 v1506
  v1507.toNat
def k0_dev84 (d0 : Dev nD) : Nat :=
  let c0_i32_1293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1279 : BitVec 32 := 22#32
  let v1516 : BitVec 32 := Scalar.addi v2 c22_i32_1279
  let c32_i32_1280 : BitVec 32 := 32#32
  let c0_i32_1281 : BitVec 32 := 0#32
  let v1517 : BitVec 1 := Scalar.cmpi .eq c32_i32_1280 c0_i32_1281
  let c1_i32_1282 : BitVec 32 := 1#32
  let v1518 : BitVec 32 := Scalar.select v1517 c1_i32_1282 c32_i32_1280
  let v1519 : BitVec 32 := Scalar.remsi v1516 v1518
  let c0_i32_1284 : BitVec 32 := 0#32
  let v1521 : BitVec 1 := Scalar.cmpi .slt v1519 c0_i32_1284
  let c0_i32_1285 : BitVec 32 := 0#32
  let v1522 : BitVec 1 := Scalar.cmpi .slt v1518 c0_i32_1285
  let v1523 : BitVec 1 := Scalar.xori v1521 v1522
  let c0_i32_1283 : BitVec 32 := 0#32
  let v1520 : BitVec 1 := Scalar.cmpi .ne v1519 c0_i32_1283
  let v1524 : BitVec 1 := Scalar.andi v1523 v1520
  let v1525 : BitVec 32 := Scalar.addi v1519 v1518
  let v1526 : BitVec 32 := Scalar.select v1524 v1525 v1519
  let c1_i32_1292 : BitVec 32 := 1#32
  let v1527 : BitVec 32 := Scalar.muli v1526 c1_i32_1292
  let v1528 : BitVec 32 := Scalar.addi c0_i32_1293 v1527
  v1528.toNat
def k0_dev85 (d0 : Dev nD) : Nat :=
  let c0_i32_1312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1298 : BitVec 32 := 23#32
  let v1537 : BitVec 32 := Scalar.addi v2 c23_i32_1298
  let c32_i32_1299 : BitVec 32 := 32#32
  let c0_i32_1300 : BitVec 32 := 0#32
  let v1538 : BitVec 1 := Scalar.cmpi .eq c32_i32_1299 c0_i32_1300
  let c1_i32_1301 : BitVec 32 := 1#32
  let v1539 : BitVec 32 := Scalar.select v1538 c1_i32_1301 c32_i32_1299
  let v1540 : BitVec 32 := Scalar.remsi v1537 v1539
  let c0_i32_1303 : BitVec 32 := 0#32
  let v1542 : BitVec 1 := Scalar.cmpi .slt v1540 c0_i32_1303
  let c0_i32_1304 : BitVec 32 := 0#32
  let v1543 : BitVec 1 := Scalar.cmpi .slt v1539 c0_i32_1304
  let v1544 : BitVec 1 := Scalar.xori v1542 v1543
  let c0_i32_1302 : BitVec 32 := 0#32
  let v1541 : BitVec 1 := Scalar.cmpi .ne v1540 c0_i32_1302
  let v1545 : BitVec 1 := Scalar.andi v1544 v1541
  let v1546 : BitVec 32 := Scalar.addi v1540 v1539
  let v1547 : BitVec 32 := Scalar.select v1545 v1546 v1540
  let c1_i32_1311 : BitVec 32 := 1#32
  let v1548 : BitVec 32 := Scalar.muli v1547 c1_i32_1311
  let v1549 : BitVec 32 := Scalar.addi c0_i32_1312 v1548
  v1549.toNat
def k0_dev86 (d0 : Dev nD) : Nat :=
  let c0_i32_1331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1317 : BitVec 32 := 24#32
  let v1558 : BitVec 32 := Scalar.addi v2 c24_i32_1317
  let c32_i32_1318 : BitVec 32 := 32#32
  let c0_i32_1319 : BitVec 32 := 0#32
  let v1559 : BitVec 1 := Scalar.cmpi .eq c32_i32_1318 c0_i32_1319
  let c1_i32_1320 : BitVec 32 := 1#32
  let v1560 : BitVec 32 := Scalar.select v1559 c1_i32_1320 c32_i32_1318
  let v1561 : BitVec 32 := Scalar.remsi v1558 v1560
  let c0_i32_1322 : BitVec 32 := 0#32
  let v1563 : BitVec 1 := Scalar.cmpi .slt v1561 c0_i32_1322
  let c0_i32_1323 : BitVec 32 := 0#32
  let v1564 : BitVec 1 := Scalar.cmpi .slt v1560 c0_i32_1323
  let v1565 : BitVec 1 := Scalar.xori v1563 v1564
  let c0_i32_1321 : BitVec 32 := 0#32
  let v1562 : BitVec 1 := Scalar.cmpi .ne v1561 c0_i32_1321
  let v1566 : BitVec 1 := Scalar.andi v1565 v1562
  let v1567 : BitVec 32 := Scalar.addi v1561 v1560
  let v1568 : BitVec 32 := Scalar.select v1566 v1567 v1561
  let c1_i32_1330 : BitVec 32 := 1#32
  let v1569 : BitVec 32 := Scalar.muli v1568 c1_i32_1330
  let v1570 : BitVec 32 := Scalar.addi c0_i32_1331 v1569
  v1570.toNat
def k0_dev87 (d0 : Dev nD) : Nat :=
  let c0_i32_1350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1336 : BitVec 32 := 25#32
  let v1579 : BitVec 32 := Scalar.addi v2 c25_i32_1336
  let c32_i32_1337 : BitVec 32 := 32#32
  let c0_i32_1338 : BitVec 32 := 0#32
  let v1580 : BitVec 1 := Scalar.cmpi .eq c32_i32_1337 c0_i32_1338
  let c1_i32_1339 : BitVec 32 := 1#32
  let v1581 : BitVec 32 := Scalar.select v1580 c1_i32_1339 c32_i32_1337
  let v1582 : BitVec 32 := Scalar.remsi v1579 v1581
  let c0_i32_1341 : BitVec 32 := 0#32
  let v1584 : BitVec 1 := Scalar.cmpi .slt v1582 c0_i32_1341
  let c0_i32_1342 : BitVec 32 := 0#32
  let v1585 : BitVec 1 := Scalar.cmpi .slt v1581 c0_i32_1342
  let v1586 : BitVec 1 := Scalar.xori v1584 v1585
  let c0_i32_1340 : BitVec 32 := 0#32
  let v1583 : BitVec 1 := Scalar.cmpi .ne v1582 c0_i32_1340
  let v1587 : BitVec 1 := Scalar.andi v1586 v1583
  let v1588 : BitVec 32 := Scalar.addi v1582 v1581
  let v1589 : BitVec 32 := Scalar.select v1587 v1588 v1582
  let c1_i32_1349 : BitVec 32 := 1#32
  let v1590 : BitVec 32 := Scalar.muli v1589 c1_i32_1349
  let v1591 : BitVec 32 := Scalar.addi c0_i32_1350 v1590
  v1591.toNat
def k0_dev88 (d0 : Dev nD) : Nat :=
  let c0_i32_1369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1355 : BitVec 32 := 26#32
  let v1600 : BitVec 32 := Scalar.addi v2 c26_i32_1355
  let c32_i32_1356 : BitVec 32 := 32#32
  let c0_i32_1357 : BitVec 32 := 0#32
  let v1601 : BitVec 1 := Scalar.cmpi .eq c32_i32_1356 c0_i32_1357
  let c1_i32_1358 : BitVec 32 := 1#32
  let v1602 : BitVec 32 := Scalar.select v1601 c1_i32_1358 c32_i32_1356
  let v1603 : BitVec 32 := Scalar.remsi v1600 v1602
  let c0_i32_1360 : BitVec 32 := 0#32
  let v1605 : BitVec 1 := Scalar.cmpi .slt v1603 c0_i32_1360
  let c0_i32_1361 : BitVec 32 := 0#32
  let v1606 : BitVec 1 := Scalar.cmpi .slt v1602 c0_i32_1361
  let v1607 : BitVec 1 := Scalar.xori v1605 v1606
  let c0_i32_1359 : BitVec 32 := 0#32
  let v1604 : BitVec 1 := Scalar.cmpi .ne v1603 c0_i32_1359
  let v1608 : BitVec 1 := Scalar.andi v1607 v1604
  let v1609 : BitVec 32 := Scalar.addi v1603 v1602
  let v1610 : BitVec 32 := Scalar.select v1608 v1609 v1603
  let c1_i32_1368 : BitVec 32 := 1#32
  let v1611 : BitVec 32 := Scalar.muli v1610 c1_i32_1368
  let v1612 : BitVec 32 := Scalar.addi c0_i32_1369 v1611
  v1612.toNat
def k0_dev89 (d0 : Dev nD) : Nat :=
  let c0_i32_1388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1374 : BitVec 32 := 27#32
  let v1621 : BitVec 32 := Scalar.addi v2 c27_i32_1374
  let c32_i32_1375 : BitVec 32 := 32#32
  let c0_i32_1376 : BitVec 32 := 0#32
  let v1622 : BitVec 1 := Scalar.cmpi .eq c32_i32_1375 c0_i32_1376
  let c1_i32_1377 : BitVec 32 := 1#32
  let v1623 : BitVec 32 := Scalar.select v1622 c1_i32_1377 c32_i32_1375
  let v1624 : BitVec 32 := Scalar.remsi v1621 v1623
  let c0_i32_1379 : BitVec 32 := 0#32
  let v1626 : BitVec 1 := Scalar.cmpi .slt v1624 c0_i32_1379
  let c0_i32_1380 : BitVec 32 := 0#32
  let v1627 : BitVec 1 := Scalar.cmpi .slt v1623 c0_i32_1380
  let v1628 : BitVec 1 := Scalar.xori v1626 v1627
  let c0_i32_1378 : BitVec 32 := 0#32
  let v1625 : BitVec 1 := Scalar.cmpi .ne v1624 c0_i32_1378
  let v1629 : BitVec 1 := Scalar.andi v1628 v1625
  let v1630 : BitVec 32 := Scalar.addi v1624 v1623
  let v1631 : BitVec 32 := Scalar.select v1629 v1630 v1624
  let c1_i32_1387 : BitVec 32 := 1#32
  let v1632 : BitVec 32 := Scalar.muli v1631 c1_i32_1387
  let v1633 : BitVec 32 := Scalar.addi c0_i32_1388 v1632
  v1633.toNat
def k0_dev90 (d0 : Dev nD) : Nat :=
  let c0_i32_1407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1393 : BitVec 32 := 28#32
  let v1642 : BitVec 32 := Scalar.addi v2 c28_i32_1393
  let c32_i32_1394 : BitVec 32 := 32#32
  let c0_i32_1395 : BitVec 32 := 0#32
  let v1643 : BitVec 1 := Scalar.cmpi .eq c32_i32_1394 c0_i32_1395
  let c1_i32_1396 : BitVec 32 := 1#32
  let v1644 : BitVec 32 := Scalar.select v1643 c1_i32_1396 c32_i32_1394
  let v1645 : BitVec 32 := Scalar.remsi v1642 v1644
  let c0_i32_1398 : BitVec 32 := 0#32
  let v1647 : BitVec 1 := Scalar.cmpi .slt v1645 c0_i32_1398
  let c0_i32_1399 : BitVec 32 := 0#32
  let v1648 : BitVec 1 := Scalar.cmpi .slt v1644 c0_i32_1399
  let v1649 : BitVec 1 := Scalar.xori v1647 v1648
  let c0_i32_1397 : BitVec 32 := 0#32
  let v1646 : BitVec 1 := Scalar.cmpi .ne v1645 c0_i32_1397
  let v1650 : BitVec 1 := Scalar.andi v1649 v1646
  let v1651 : BitVec 32 := Scalar.addi v1645 v1644
  let v1652 : BitVec 32 := Scalar.select v1650 v1651 v1645
  let c1_i32_1406 : BitVec 32 := 1#32
  let v1653 : BitVec 32 := Scalar.muli v1652 c1_i32_1406
  let v1654 : BitVec 32 := Scalar.addi c0_i32_1407 v1653
  v1654.toNat
def k0_dev91 (d0 : Dev nD) : Nat :=
  let c0_i32_1426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1412 : BitVec 32 := 29#32
  let v1663 : BitVec 32 := Scalar.addi v2 c29_i32_1412
  let c32_i32_1413 : BitVec 32 := 32#32
  let c0_i32_1414 : BitVec 32 := 0#32
  let v1664 : BitVec 1 := Scalar.cmpi .eq c32_i32_1413 c0_i32_1414
  let c1_i32_1415 : BitVec 32 := 1#32
  let v1665 : BitVec 32 := Scalar.select v1664 c1_i32_1415 c32_i32_1413
  let v1666 : BitVec 32 := Scalar.remsi v1663 v1665
  let c0_i32_1417 : BitVec 32 := 0#32
  let v1668 : BitVec 1 := Scalar.cmpi .slt v1666 c0_i32_1417
  let c0_i32_1418 : BitVec 32 := 0#32
  let v1669 : BitVec 1 := Scalar.cmpi .slt v1665 c0_i32_1418
  let v1670 : BitVec 1 := Scalar.xori v1668 v1669
  let c0_i32_1416 : BitVec 32 := 0#32
  let v1667 : BitVec 1 := Scalar.cmpi .ne v1666 c0_i32_1416
  let v1671 : BitVec 1 := Scalar.andi v1670 v1667
  let v1672 : BitVec 32 := Scalar.addi v1666 v1665
  let v1673 : BitVec 32 := Scalar.select v1671 v1672 v1666
  let c1_i32_1425 : BitVec 32 := 1#32
  let v1674 : BitVec 32 := Scalar.muli v1673 c1_i32_1425
  let v1675 : BitVec 32 := Scalar.addi c0_i32_1426 v1674
  v1675.toNat
def k0_dev92 (d0 : Dev nD) : Nat :=
  let c0_i32_1445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1431 : BitVec 32 := 30#32
  let v1684 : BitVec 32 := Scalar.addi v2 c30_i32_1431
  let c32_i32_1432 : BitVec 32 := 32#32
  let c0_i32_1433 : BitVec 32 := 0#32
  let v1685 : BitVec 1 := Scalar.cmpi .eq c32_i32_1432 c0_i32_1433
  let c1_i32_1434 : BitVec 32 := 1#32
  let v1686 : BitVec 32 := Scalar.select v1685 c1_i32_1434 c32_i32_1432
  let v1687 : BitVec 32 := Scalar.remsi v1684 v1686
  let c0_i32_1436 : BitVec 32 := 0#32
  let v1689 : BitVec 1 := Scalar.cmpi .slt v1687 c0_i32_1436
  let c0_i32_1437 : BitVec 32 := 0#32
  let v1690 : BitVec 1 := Scalar.cmpi .slt v1686 c0_i32_1437
  let v1691 : BitVec 1 := Scalar.xori v1689 v1690
  let c0_i32_1435 : BitVec 32 := 0#32
  let v1688 : BitVec 1 := Scalar.cmpi .ne v1687 c0_i32_1435
  let v1692 : BitVec 1 := Scalar.andi v1691 v1688
  let v1693 : BitVec 32 := Scalar.addi v1687 v1686
  let v1694 : BitVec 32 := Scalar.select v1692 v1693 v1687
  let c1_i32_1444 : BitVec 32 := 1#32
  let v1695 : BitVec 32 := Scalar.muli v1694 c1_i32_1444
  let v1696 : BitVec 32 := Scalar.addi c0_i32_1445 v1695
  v1696.toNat
def k0_dev93 (d0 : Dev nD) : Nat :=
  let c0_i32_1464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1450 : BitVec 32 := 31#32
  let v1705 : BitVec 32 := Scalar.addi v2 c31_i32_1450
  let c32_i32_1451 : BitVec 32 := 32#32
  let c0_i32_1452 : BitVec 32 := 0#32
  let v1706 : BitVec 1 := Scalar.cmpi .eq c32_i32_1451 c0_i32_1452
  let c1_i32_1453 : BitVec 32 := 1#32
  let v1707 : BitVec 32 := Scalar.select v1706 c1_i32_1453 c32_i32_1451
  let v1708 : BitVec 32 := Scalar.remsi v1705 v1707
  let c0_i32_1455 : BitVec 32 := 0#32
  let v1710 : BitVec 1 := Scalar.cmpi .slt v1708 c0_i32_1455
  let c0_i32_1456 : BitVec 32 := 0#32
  let v1711 : BitVec 1 := Scalar.cmpi .slt v1707 c0_i32_1456
  let v1712 : BitVec 1 := Scalar.xori v1710 v1711
  let c0_i32_1454 : BitVec 32 := 0#32
  let v1709 : BitVec 1 := Scalar.cmpi .ne v1708 c0_i32_1454
  let v1713 : BitVec 1 := Scalar.andi v1712 v1709
  let v1714 : BitVec 32 := Scalar.addi v1708 v1707
  let v1715 : BitVec 32 := Scalar.select v1713 v1714 v1708
  let c1_i32_1463 : BitVec 32 := 1#32
  let v1716 : BitVec 32 := Scalar.muli v1715 c1_i32_1463
  let v1717 : BitVec 32 := Scalar.addi c0_i32_1464 v1716
  v1717.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x32768, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x32768, .f32⟩
  | .hbm, ⟨5, _⟩ => ⟨S1024x32768, .f32⟩
  | .hbm, ⟨6, _⟩ => ⟨S1024x32768, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x32768, .f32⟩
  | .hbm, ⟨11, _⟩ => ⟨S1024x32768, .f32⟩
  | _, _ => ⟨S1024x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Loop.lean ====
/-
# The kernel's body as five loops over the offsets

The printed body is the unrolled text of the five loops of the kernel: the 31 entry signals, the 31 transfers of the row
maxima, the 31 transfers of the row sums, the 62 waits for what the other devices send, and the 62 waits for
its own transfers to have left. This module writes those loops down once, with the offset a variable, and shows that the
printed text is exactly that program (`body_eq`).
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Run

open Cert.KernelIdeal Cert.KernelIdeal.Gen

open Idealize.ShloMosaic Idealize.SL.Sem

variable {F : FTy → Type} [FloatOps F]

/-! ## The device a transfer or a signal names -/

/-- The kernel's arithmetic for `(my_id + off) % 32` on the word `w` of the offset, as it is printed. -/
def peerWord (d : Dev nD) (w : BitVec 32) : ℕ :=
  let v2 : BitVec 32 := Scalar.remsi (Scalar.divsi (Dev.word d) 1#32) 32#32
  let n : BitVec 32 := Scalar.select (Scalar.cmpi .eq 32#32 0#32) 1#32 32#32
  let r : BitVec 32 := Scalar.remsi (Scalar.addi v2 w) n
  let c : BitVec 1 := Scalar.andi (Scalar.xori (Scalar.cmpi .slt r 0#32) (Scalar.cmpi .slt n 0#32)) (Scalar.cmpi .ne r 0#32)
  (Scalar.addi 0#32 (Scalar.muli (Scalar.select c (Scalar.addi r n) r) 1#32)).toNat

/-- The device at offset `o` from `d` on the ring of 32. -/
abbrev peer (d : Dev nD) (o : Fin 32) : Dev nD := Fin.add d o

/-- The printed arithmetic computes the device at offset `o`. -/
theorem peerWord_eq : ∀ (o : Fin 32) (d : Dev nD), peerWord d (BitVec.ofNat 32 o.val) = (peer d o).val := by decide +kernel

theorem peerWord_lt (o : Fin 32) (d : Dev nD) : peerWord d (BitVec.ofNat 32 o.val) < nD := by
  rw [peerWord_eq]; exact (peer d o).isLt

/-- The device at offset `o`, named as the printed text names it. -/
def peerDev (d : Dev nD) (o : Fin 32) : Dev nD := ⟨peerWord d (BitVec.ofNat 32 o.val), peerWord_lt o d⟩

theorem peerDev_eq (d : Dev nD) (o : Fin 32) : peerDev d o = peer d o := Fin.ext (peerWord_eq o d)

/-! ## A slot of the buffer of statistics, a semaphore of an array -/

theorem slot_inb (o : Fin 32) (b : Fin 2) : ∀ a, (![o.val, b.val, 0, 0] : Fin 4 → Nat) a + S1x1x8x128.size a ≤ S32x2x8x128.size a := by
  revert o b; decide +kernel

theorem sem_inb (o : Fin 32) : ∀ a, (![o.val] : Fin 1 → Nat) a + S1.size a ≤ S32.size a := by
  revert o; decide +kernel

/-- Slot `(o, b)` of the statistics: the 8 × 128 numbers of one device, its row maxima (`b = 0`) or its row sums (`b = 1`). -/
def slot (M : Memref sig .tc .vmem S32x2x8x128 .f32) (o : Fin 32) (b : Fin 2) : Memref sig .tc .vmem S8x128 .f32 :=
  (M.slice (Rect.unit (s := S32x2x8x128) ![o.val, b.val, 0, 0] S1x1x8x128.size (slot_inb o b)) (fun _ => rfl)).squeeze S8x128 squeezes_S1x1x8x128_S8x128

/-- A slot is made of whole words. -/
theorem slot_words (M : Memref sig .tc .vmem S32x2x8x128 .f32) (o : Fin 32) (b : Fin 2) : (slot M o b).view.WordExact :=
  (View.wordExact_bits rfl).reshape _ _

/-- Semaphore `o` of an array of 32. -/
def semAt (A : DmaSems sig S32) (o : Fin 32) : DmaSem sig :=
  ((A.slice (Rect.unit (s := S32) ![o.val] S1.size (sem_inb o))).squeeze S_ squeezes_S1_S_).sem

/-- The runtime's barrier semaphore. -/
abbrev barS : Sem sig := (SemArray.scalar (sig.barrier 0 rfl) : Sems sig S_).sem

/-! ## The loops -/

abbrev Body (F : FTy → Type) [FloatOps F] : Type 1 := Prog (TpuEff nD τ sig (Elt F) Λ₀ .tc) PUnit

/-- The offset of the iteration after which `n` remain, of the loop from 1 to 31. -/
def offAt (n : ℕ) : Fin 32 := ⟨31 - n, by omega⟩

/-- The last `n` iterations of the loop over the offsets, then `k`. -/
def loop (step : Fin 32 → Body F → Body F) : ℕ → Body F → Body F
  | 0, k => k
  | n + 1, k => step (offAt n) (loop step n k)

/-- One iteration of the entry handshake: a unit to the barrier semaphore of the device at offset `o`. -/
def signalStep (d : Dev nD) (o : Fin 32) (k : Body F) : Body F :=
  .op (.semSignal (peerDev d o, .tc) barS (1#32).toInt) fun _ => k

/-- One iteration of a send loop: slot `(0, b)` to slot `(-o, b)` of the device at offset `o`, on the send semaphore
    `S[o]` here and the receive semaphore `R[-o]` there. -/
def sendStep (M : Memref sig .tc .vmem S32x2x8x128 .f32) (S R : DmaSems sig S32) (b : Fin 2) (d : Dev nD) (o : Fin 32) (k : Body F) : Body F :=
  .op (.enqueueDma (slot M 0 b) (.remote (Dev.tc (peerDev d o)) (slot M (-o) b) (.dma (semAt S o))) (.dma (semAt R (-o)))
    (slot_words M 0 b) (slot_words M (-o) b) ⟨⟨rfl, Or.inl rfl⟩, trivial⟩) fun _ => k

/-- One iteration of the receive loop: the waits for the maxima and for the sums of slot `o`. -/
def recvStep (M : Memref sig .tc .vmem S32x2x8x128 .f32) (R₀ R₁ : DmaSems sig S32) (o : Fin 32) (k : Body F) : Body F :=
  .op (.waitDma2 (semAt R₀ o) (slot M o 0) (slot M o 0) (slot_words M o 0) (slot_words M o 0)) fun _ =>
  .op (.waitDma2 (semAt R₁ o) (slot M o 1) (slot M o 1) (slot_words M o 1) (slot_words M o 1)) fun _ => k

/-- One iteration of a drain loop: the wait for the transfer at offset `o` to have left. -/
def drainStep (M : Memref sig .tc .vmem S32x2x8x128 .f32) (S : DmaSems sig S32) (b : Fin 2) (o : Fin 32) (k : Body F) : Body F :=
  .op (.waitDma2 (semAt S o) (slot M (-o) b) (slot M 0 b) (slot_words M (-o) b) (slot_words M 0 b)) fun _ => k

/-- The whole block of an input or output staging buffer. -/
abbrev rX : Rect S1024x1024 := Rect.unit (s := S1024x1024) ![0, 0] S1024x1024.size inb_S1024x1024_S1024x1024_0_0
/-- Slot `(0, b)` of the statistics as the vector loads and stores access it. -/
abbrev rM : Rect S32x2x8x128 := Rect.unit (s := S32x2x8x128) ![0, 0, 0, 0] S1x1x8x128.size inb_S32x2x8x128_S1x1x8x128_0_0_0_0
abbrev rS : Rect S32x2x8x128 := Rect.unit (s := S32x2x8x128) ![0, 1, 0, 0] S1x1x8x128.size inb_S32x2x8x128_S1x1x8x128_0_1_0_0
/-- All slots of the maxima, and all slots of the sums. -/
abbrev rAM : Rect S32x2x8x128 := Rect.unit (s := S32x2x8x128) ![0, 0, 0, 0] S32x1x8x128.size inb_S32x2x8x128_S32x1x8x128_0_0_0_0
abbrev rAS : Rect S32x2x8x128 := Rect.unit (s := S32x2x8x128) ![0, 1, 0, 0] S32x1x8x128.size inb_S32x2x8x128_S32x1x8x128_0_1_0_0

/-- The kernel's body with its loops. -/
def bodyLoops (X O : Memref sig .tc .vmem S1024x1024 .f32) (M : Memref sig .tc .vmem S32x2x8x128 .f32) (A₃ A₄ A₅ A₆ : DmaSems sig S32) : Body F :=
  .op .deviceId fun d =>
  loop (signalStep d) 31 <|
  .op (.semWait barS (31#32).toInt) fun _ =>
  .op (.load X rX.toLoadRect (View.loadsAt_vmem h_S1024x1024)) fun x =>
  .op (.load M rM.toLoadRect (View.loadsAt_vmem h_S1x1x8x128)) fun _ =>
  .op (.store M rM (k0_pay3 x) Finset.univ (View.stores_vmem_bits_univ h_S1x1x8x128 rfl) (.inl rfl)) fun _ =>
  loop (sendStep M A₃ A₄ 0 d) 31 <|
  .op (.load O rX.toLoadRect (View.loadsAt_vmem h_S1024x1024)) fun _ =>
  .op (.store O rX (k0_pay5 (k0_pay1 x) (k0_pay2 x)) Finset.univ (View.stores_vmem_bits_univ h_S1024x1024 rfl) (.inl rfl)) fun _ =>
  .op (.load M rS.toLoadRect (View.loadsAt_vmem h_S1x1x8x128)) fun _ =>
  .op (.store M rS (k0_pay6 (k0_pay1 x) (k0_pay2 x)) Finset.univ (View.stores_vmem_bits_univ h_S1x1x8x128 rfl) (.inl rfl)) fun _ =>
  loop (sendStep M A₅ A₆ 1 d) 31 <|
  loop (recvStep M A₄ A₆) 31 <|
  .op (.load M rAM.toLoadRect (View.loadsAt_vmem h_S32x1x8x128)) fun am =>
  .op (.load M rAS.toLoadRect (View.loadsAt_vmem h_S32x1x8x128)) fun sm =>
  .op (.load O rX.toLoadRect (View.loadsAt_vmem h_S1024x1024)) fun e =>
  .op (.load O rX.toLoadRect (View.loadsAt_vmem h_S1024x1024)) fun _ =>
  .op (.store O rX (k0_pay9 (k0_pay2 x) (k0_pay7 am) (k0_pay8 sm) e) Finset.univ (View.stores_vmem_bits_univ h_S1024x1024 rfl) (.inl rfl)) fun _ =>
  loop (drainStep M A₃ 0) 31 <|
  loop (drainStep M A₅ 1) 31 <|
  .ret ⟨⟩

/-- The printed body is the program of loops. -/
theorem body_eq (X : Memref sig .tc .vmem S1024x1024 .f32) (hX : X.IsWhole) (O : Memref sig .tc .vmem S1024x1024 .f32) (hO : O.IsWhole)
    (M : Memref sig .tc .vmem S32x2x8x128 .f32) (hM : M.IsWhole) (A₃ A₄ A₅ A₆ : DmaSems sig S32) :
    cc0_body (F := F) X hX O hO M hM A₃ A₄ A₅ A₆ = bodyLoops X O M A₃ A₄ A₅ A₆ := by
  chain_rfl

end Cert.KernelIdeal.Run

end
-- ==== Proof.Cells.lean ====
/-
# The cells, the slots and what they hold

Device `c` of the ring of 32 owns one buffer of statistics: slot `(o, 0)` holds the row maxima, slot `(o, 1)` the row sums, of the
device at offset `o` from `c`. Slot `(0, _)` is its own, written by its two stores; slot `(o, _)`, `o ≠ 0`, is written by the transfers
of the device at offset `o`. This module names the slots, the semaphores' cells and those contents, and says that every store and every
transfer writes just the named contents.
-/
module

public import proofs.«01_k».proof.Proof.Loop
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, and the ring's with duties named by offsets -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring: offsets add -/

theorem peer_neg (c : Dev nD) (o : Fin 32) : peer (peer c o) (-o) = c := by revert c o; decide +kernel
theorem neg_peer (c : Dev nD) (o : Fin 32) : peer (peer c (-o)) o = c := by revert c o; decide +kernel
theorem peer_zero (c : Dev nD) : peer c 0 = c := by revert c; decide +kernel
theorem neg_ne_zero' (o : Fin 32) : -o ≠ 0 ↔ o ≠ 0 := by revert o; decide +kernel

/-- The offsets the kernel sends to and receives from. -/
abbrev offs : Finset (Fin 32) := Finset.univ.erase 0

theorem mem_offs {o : Fin 32} : o ∈ offs ↔ o ≠ 0 := by simp [offs]

/-! ## The buffers and the semaphores -/

abbrev xM : Memref sig .tc .vmem S1024x1024 .f32 := Memref.whole cc0_stg0_0
abbrev oM : Memref sig .tc .vmem S1024x1024 .f32 := Memref.whole cc0_stg1_0
abbrev sM : Memref sig .tc .vmem S32x2x8x128 .f32 := Memref.whole cc0_scratch0

/-- The send (`false`) and receive (`true`) semaphores of plane `b`, as the kernel's arguments. -/
def sems (b : Fin 2) (r : Bool) : DmaSems sig S32 :=
  match b, r with
  | 0, false => cc0_scratch1
  | 0, true => cc0_scratch2
  | 1, false => cc0_scratch3
  | 1, true => cc0_scratch4

/-- A name for each of them: plane, direction, offset. -/
abbrev Key : Type := Fin 2 × Bool × Fin 32

theorem keySem_lt : ∀ k : Key, 2 + 64 * k.1.val + (if k.2.1 then 32 else 0) + k.2.2.val < 130 := by decide +kernel

/-- The DMA semaphore of that name. -/
def keySem (k : Key) : DmaSem sig := ⟨2 + 64 * k.1.val + (if k.2.1 then 32 else 0) + k.2.2.val, keySem_lt k⟩

theorem semAt_sems (b : Fin 2) (r : Bool) (o : Fin 32) : semAt (sems b r) o = keySem (b, r, o) := by
  revert b r o; decide +kernel

theorem keySem_inj : Function.Injective keySem := by
  rintro ⟨b, r, o⟩ ⟨b', r', o'⟩ h
  have h' := congrArg Fin.val h
  simp only [keySem] at h'
  have := b.isLt; have := b'.isLt; have := o.isLt; have := o'.isLt
  have hb : b = b' := Fin.ext (by cases r <;> cases r' <;> simp at h' <;> omega)
  subst hb
  cases r <;> cases r' <;> simp at h' <;> first | (exfalso; omega) | (rw [Fin.ext h'])

/-- The name of a DMA semaphore, if it has one (the staging semaphores have none). -/
def keyOf (q : DmaSem sig) : Option Key :=
  if h : 2 ≤ q.val then
    some (⟨(q.val - 2) / 64, by have : q.val < 130 := q.isLt; omega⟩, decide ((q.val - 2) / 32 % 2 = 1), ⟨(q.val - 2) % 32, Nat.mod_lt _ (by decide)⟩)
  else none

theorem keyOf_keySem (k : Key) : keyOf (keySem k) = some k := by revert k; decide +kernel

abbrev barCell (c : Dev nD) : GSem nD τ sig := ((c : Thread nD τ), .reg barS)
abbrev keyCell (c : Dev nD) (k : Key) : GSem nD τ sig := ((c : Thread nD τ), .dma (keySem k))

theorem sem_eq_barS (s : Sem sig) : s = barS := by revert s; decide +kernel

/-- What one transfer credits its two semaphores. -/
abbrev N : ℕ := (slot sM 0 0).view.dmaCredit
theorem N_pos : 0 < N := View.dmaCredit_pos _ (by decide)
theorem credit_slot (o : Fin 32) (b : Fin 2) : (slot sM o b).view.dmaCredit = N := rfl

/-! ## Contents -/

/-- The block of `x` device `c` computes on. -/
def xstg (c : Dev nD) : (cc0_stg0_0 : Ref sig .tc).ty.Contents (Elt F) :=
  (win0_0.blk (0 : Fin 1)).view.read (Elt F) ((s₀ m ρ).mem ((c : Thread nD τ).loc main_arg0))

/-- The row maxima (`b = 0`) and the row sums of exponentials (`b = 1`) of a block. -/
def stat (b : Fin 2) (x : Vec F S1024x1024 .f32) : Vec F S1x1x8x128 .f32 :=
  match b with
  | 0 => k0_pay3 x
  | 1 => k0_pay6 (k0_pay1 x) (k0_pay2 x)

/-- The place of a number of the statistics within its slot. -/
def inSlot (i : S32x2x8x128.Idx) : S1x1x8x128.Idx := fun a => match a with
  | ⟨0, _⟩ => (0 : Fin 1)
  | ⟨1, _⟩ => (0 : Fin 1)
  | ⟨2, _⟩ => i (2 : Fin 4)
  | ⟨3, _⟩ => i (3 : Fin 4)

/-- The statistics on device `c` once everything has arrived: slot `(o, b)` is the statistic `b` of the device at offset `o`. -/
def stats (c : Dev nD) : Buf (Elt F) ((c : Thread nD τ).loc cc0_scratch0) :=
  fun (i : S32x2x8x128.Idx) => stat (i (1 : Fin 4)) (xstg m ρ (peer c (i (0 : Fin 4)))) (inSlot i)

/-! ## A slot's elements -/

/-- Slot `(o, b)` as a rectangle of the buffer. -/
abbrev slotRect (o : Fin 32) (b : Fin 2) : Rect S32x2x8x128 :=
  Rect.unit (s := S32x2x8x128) ![o.val, b.val, 0, 0] S1x1x8x128.size (slot_inb o b)

abbrev slotSet (o : Fin 32) (b : Fin 2) : Finset S32x2x8x128.Idx := (slotRect o b).set

omit [FloatOps F] in
theorem slot_set (o : Fin 32) (b : Fin 2) : (slot sM o b).view.set = slotSet o b :=
  (View.set_reshape _ _).trans (View.set_slice_whole _ _)

omit [FloatOps F] in
theorem mem_slotSet (o : Fin 32) (b : Fin 2) (i : S32x2x8x128.Idx) :
    i ∈ slotSet o b ↔ i (0 : Fin 4) = o ∧ i (1 : Fin 4) = b := by
  refine Rect.mem_set_unit.trans ?_
  constructor
  · intro h
    have h0 := h (0 : Fin 4); have h1 := h (1 : Fin 4)
    simp [S1x1x8x128] at h0 h1
    exact ⟨Fin.ext (by omega), Fin.ext (by omega)⟩
  · rintro ⟨rfl, rfl⟩ a
    have := (i a).isLt
    match a with
    | ⟨0, _⟩ => exact ⟨le_refl _, Nat.lt_succ_self _⟩
    | ⟨1, _⟩ => exact ⟨le_refl _, Nat.lt_succ_self _⟩
    | ⟨2, _⟩ => exact ⟨Nat.zero_le _, this.trans_eq (Nat.zero_add _).symm⟩
    | ⟨3, _⟩ => exact ⟨Nat.zero_le _, this.trans_eq (Nat.zero_add _).symm⟩

omit [FloatOps F] in
theorem slotSet_disjoint (p p' : Fin 32 × Fin 2) (h : p ≠ p') : Disjoint (slotSet p.1 p.2) (slotSet p'.1 p'.2) := by
  rw [Finset.disjoint_left]
  intro i hi hi'
  rw [mem_slotSet] at hi hi'
  exact h (Prod.ext (hi.1.symm.trans hi'.1) (hi.2.symm.trans hi'.2))

omit [FloatOps F] in
theorem slotSet_cover : (Finset.univ : Finset (Fin 32 × Fin 2)).biUnion (fun p => slotSet p.1 p.2) = Finset.univ := by
  ext i
  simp only [Finset.mem_biUnion, Finset.mem_univ, true_and, iff_true]
  exact ⟨(i (0 : Fin 4), i (1 : Fin 4)), (mem_slotSet _ _ i).mpr ⟨rfl, rfl⟩⟩

/-- The statistics at a place of slot `(o, b)`. -/
theorem stats_slot (c : Dev nD) (o : Fin 32) (b : Fin 2) (k : S1x1x8x128.Idx) :
    (stats m ρ c : S32x2x8x128.Idx → Elt F .f32) ((slotRect o b).emb k) = stat b (xstg m ρ (peer c o)) k := by
  have h0 : ((slotRect o b).emb k) (0 : Fin 4) = o := Fin.ext (by
    have : (k (0 : Fin 4)).val < 1 := (k (0 : Fin 4)).isLt
    show o.val + 1 * (k (0 : Fin 4)).val = o.val; omega)
  have h1 : ((slotRect o b).emb k) (1 : Fin 4) = b := Fin.ext (by
    have : (k (1 : Fin 4)).val < 1 := (k (1 : Fin 4)).isLt
    show b.val + 1 * (k (1 : Fin 4)).val = b.val; omega)
  have hk : inSlot ((slotRect o b).emb k) = k := by
    funext a
    match a with
    | ⟨0, _⟩ => exact Subsingleton.elim (α := Fin 1) _ _
    | ⟨1, _⟩ => exact Subsingleton.elim (α := Fin 1) _ _
    | ⟨2, _⟩ => exact Fin.ext (by show 0 + 1 * (k (2 : Fin 4)).val = (k (2 : Fin 4)).val; omega)
    | ⟨3, _⟩ => exact Fin.ext (by show 0 + 1 * (k (3 : Fin 4)).val = (k (3 : Fin 4)).val; omega)
  show stat (((slotRect o b).emb k) (1 : Fin 4)) (xstg m ρ (peer c (((slotRect o b).emb k) (0 : Fin 4)))) (inSlot ((slotRect o b).emb k)) = _
  rw [h0, h1, hk]

/-- A store of its own statistic into slot `(0, b)` leaves the named contents there. -/
theorem store_stats (c : Dev nD) (b : Fin 2) (f : Buf (Elt F) ((c : Thread nD τ).loc cc0_scratch0)) (i : S32x2x8x128.Idx) (hi : i ∈ slotSet 0 b) :
    ((sM.access (slotRect 0 b)).write (Elt F) f (stat b (xstg m ρ c)) Finset.univ : S32x2x8x128.Idx → Elt F .f32) i = stats m ρ c i := by
  rw [show slotSet 0 b = Finset.univ.map (slotRect 0 b).emb from (slotRect 0 b).map_emb_univ.symm, Finset.mem_map] at hi
  obtain ⟨k, -, rfl⟩ := hi
  rw [stats_slot, peer_zero]
  exact View.write_emb_of_mem (v := sM.access (slotRect 0 b)) (Val := Elt F) f (stat b (xstg m ρ c)) (Finset.mem_univ k)

/-- A transfer of slot `(0, b)` into slot `(-o, b)` of the device at offset `o` leaves the named contents there. -/
theorem transfer_stats (c : Dev nD) (o : Fin 32) (b : Fin 2) (f : Buf (Elt F) ((peer c o : Thread nD τ).loc cc0_scratch0))
    (i : S32x2x8x128.Idx) (hi : i ∈ slotSet (-o) b) :
    ((slot sM (-o) b).view.write (Elt F) f ((slot sM 0 b).view.read (Elt F) (stats m ρ c)) Finset.univ : S32x2x8x128.Idx → Elt F .f32) i
      = stats m ρ (peer c o) i := by
  rw [← slot_set] at hi
  obtain ⟨j, -, rfl⟩ := Finset.mem_map.mp hi
  refine (View.write_emb_of_mem (v := (slot sM (-o) b).view) (Val := Elt F) f _ (Finset.mem_univ j)).trans ?_
  refine (stats_slot m ρ c 0 b (Shape.reshapeEquiv squeezes_S1x1x8x128_S8x128.numel_eq j)).trans ?_
  refine Eq.trans ?_ (stats_slot m ρ (peer c o) (-o) b (Shape.reshapeEquiv squeezes_S1x1x8x128_S8x128.numel_eq j)).symm
  rw [peer_neg, peer_zero]

end Cert.KernelIdeal.Run

end
-- ==== Proof.Sched.lean ====
/-
# The protocol

Every cell has one round. The barrier cell of device `c` has a duty per offset `o ≠ 0`, of one unit, paid by the entry signal of the
device `c` is at offset `o` from; what it hands `c` is that device's slots `(o, 0)` and `(o, 1)`: the two slots `c` transfers into.
The receive cell of slot `(o, b)`, `o ≠ 0`, has one duty, paid by the transfer of the device at offset `o`, which hands over the slot
holding that device's statistic. The send cell of offset `o ≠ 0` and plane `b` has one duty, paid by the device's own transfer, which hands
back the share of slot `(0, b)` the transfer read. The cells at offset 0 have no duty.
-/
module

public import proofs.«01_k».proof.Proof.Cells
public import Idealize.ShloMosaic.Lib.Transfers

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Slots held -/

/-- Slot `(o, b)` of device `c` held at share `q`, with contents `f`. -/
def slotPts (c : Dev nD) (o : Fin 32) (b : Fin 2) (q : PosShare TreeShare) (f : Buf (Elt F) ((c : Thread nD τ).loc cc0_scratch0)) : sProp 𝕄 :=
  ((c : Thread nD τ).loc cc0_scratch0) ↦[slotSet o b]{q} f

omit [FloatOps F] in
instance slotPts_storable (c : Dev nD) (o b q f) : BI.Storable (upEmb : UEmb _ 𝕄) (slotPts (F := F) c o b q f) := by unfold slotPts; infer_instance

omit [FloatOps F] in
/-- The same through the memref of the slot. -/
theorem slotPts_eq (c : Dev nD) (o : Fin 32) (b : Fin 2) (q : PosShare TreeShare) (f : Buf (Elt F) ((c : Thread nD τ).loc cc0_scratch0)) :
    (slotPts c o b q f : sProp 𝕄) = ((slot sM o b).view.loc (c : Thread nD τ) ↦[(slot sM o b).view.set]{q} f) :=
  (congrArg (fun S : Finset S32x2x8x128.Idx => ((c : Thread nD τ).loc cc0_scratch0 ↦[S]{q} f : sProp 𝕄)) (slot_set o b)).symm

omit [FloatOps F] in
/-- Contents that agree on the slot. -/
theorem slotPts_congr (c : Dev nD) (o : Fin 32) (b : Fin 2) (q : PosShare TreeShare) {f g : Buf (Elt F) ((c : Thread nD τ).loc cc0_scratch0)}
    (h : ∀ i : S32x2x8x128.Idx, i ∈ slotSet o b → f i = g i) : (slotPts c o b q f : sProp 𝕄) = slotPts c o b q g := by
  unfold slotPts; exact pointsTo_congr h

/-- The share of slot `(0, b)` the transfer at offset `o` reads; the share at 0 stays for the final load. -/
abbrev part (o : Fin 32) : PosShare TreeShare := Transfers.dealOf fullShare Finset.univ o

omit [FloatOps F] in
/-- A slot held whole is held by the 32 readers at their shares. -/
theorem slotPts_deal (c : Dev nD) (o : Fin 32) (b : Fin 2) (f : Buf (Elt F) ((c : Thread nD τ).loc cc0_scratch0)) :
    (slotPts c o b fullShare f : sProp 𝕄) = iprop(slotPts c o b (part 0) f ∗ bigSep offs fun i => slotPts c o b (part i) f) := by
  unfold slotPts
  rw [Transfers.pointsTo_deal (Finset.univ : Finset (Fin 32)) Finset.univ_nonempty fullShare, BI.bigSep_erase (Finset.mem_univ (0 : Fin 32))]
  rfl

/-! ## The payloads -/

/-- What the signal paying duty `o` of `c`'s barrier cell hands `c`. -/
def barPay (c : Dev nD) (o : Fin 32) : sProp 𝕄 :=
  iprop((∃ f, slotPts (peer c (-o)) o 0 fullShare f) ∗ ∃ f, slotPts (peer c (-o)) o 1 fullShare f)
/-- What the arrival in slot `(o, b)` hands `c`. -/
def recvPay (c : Dev nD) (b : Fin 2) (o : Fin 32) : sProp 𝕄 := slotPts c o b fullShare (stats m ρ c)
/-- What the end of the transfer at offset `o` of plane `b` hands `c` back. -/
def sendPay (c : Dev nD) (b : Fin 2) (o : Fin 32) : sProp 𝕄 := slotPts c 0 b (part o) (stats m ρ c)

/-- The duties, amounts and payloads of a semaphore of the kernel. -/
def semDuties : SemLoc sig → Finset (Fin 32)
  | .reg _ => offs
  | .dma q => match keyOf q with
    | some (_, _, o) => if o = 0 then ∅ else {0}
    | none => ∅
def semAmount : SemLoc sig → ℕ
  | .reg _ => 1
  | .dma _ => N
def semPayload (c : Dev nD) (d : Fin 32) : SemLoc sig → sProp 𝕄
  | .reg _ => barPay c d
  | .dma q => match keyOf q with
    | some (b, true, o) => recvPay m ρ c b o
    | some (b, false, o) => sendPay m ρ c b o
    | none => iprop(emp)

def sched : Rounds.Schedule (GSem nD τ sig) (Fin 32) 𝕄 where
  duties g r := if r = 0 ∧ g.1.2 = .tc then semDuties g.2 else ∅
  unitless _ := False
  amount g _ _ := semAmount g.2
  payload g _ d := semPayload m ρ g.1.1 d g.2
  amount_pos g _ _ _ := by
    show 0 < semAmount g.2
    cases g.2 with
    | reg _ => exact Nat.one_pos
    | dma _ => exact N_pos

instance sched_payload_storable (g : GSem nD τ sig) (r : ℕ) (d : Fin 32) :
    BI.Storable (upEmb : UEmb _ 𝕄) ((sched (F := F) m ρ).payload g r d) := by
  show BI.Storable upEmb (semPayload m ρ g.1.1 d g.2)
  unfold semPayload barPay recvPay sendPay
  (repeat' split) <;> infer_instance

section Facts
variable (c : Dev nD)

theorem duties_bar : (sched (F := F) m ρ).duties (barCell c) 0 = offs := by dsimp only [sched]; exact if_pos ⟨rfl, rfl⟩

theorem duties_key (k : Key) : (sched (F := F) m ρ).duties (keyCell c k) 0 = if k.2.2 = 0 then ∅ else {0} := by
  dsimp only [sched]
  refine (if_pos ⟨rfl, rfl⟩).trans ?_
  show (match keyOf (keySem k) with | some (_, _, o) => if o = 0 then (∅ : Finset (Fin 32)) else {0} | none => ∅) = _
  rw [keyOf_keySem]

theorem duties_key_ne {k : Key} (h : k.2.2 ≠ 0) : (sched (F := F) m ρ).duties (keyCell c k) 0 = {0} := by
  rw [duties_key, if_neg h]

theorem duties_later (g : GSem nD τ sig) : ∀ r, 1 ≤ r → (sched (F := F) m ρ).duties g r = ∅ :=
  fun r hr => by dsimp only [sched]; exact if_neg fun h => by omega

theorem duties_key_zero {k : Key} (h : k.2.2 = 0) : ∀ r, 0 ≤ r → (sched (F := F) m ρ).duties (keyCell c k) r = ∅ := by
  intro r _
  rcases Nat.eq_zero_or_pos r with rfl | hr
  · rw [duties_key, if_pos h]
  · exact duties_later m ρ _ r hr

theorem amount_bar (d : Fin 32) : (sched (F := F) m ρ).amount (barCell c) 0 d = 1 := rfl
theorem amount_key (k : Key) (d : Fin 32) : (sched (F := F) m ρ).amount (keyCell c k) 0 d = N := rfl

theorem expect_bar : (sched (F := F) m ρ).expect (barCell c) 0 = 31 := by
  unfold Schedule.expect Schedule.amountOf
  rw [duties_bar, Finset.sum_congr rfl fun d _ => amount_bar m ρ c d, Finset.sum_const, smul_eq_mul, Nat.mul_one]
  rfl

theorem expect_key {k : Key} (h : k.2.2 ≠ 0) : (sched (F := F) m ρ).expect (keyCell c k) 0 = N := by
  unfold Schedule.expect Schedule.amountOf; rw [duties_key_ne m ρ c h, Finset.sum_singleton, amount_key]

theorem payload_bar (d : Fin 32) : (sched (F := F) m ρ).payload (barCell c) 0 d = barPay c d := rfl

theorem payload_recv (b : Fin 2) (o d : Fin 32) : (sched (F := F) m ρ).payload (keyCell c (b, true, o)) 0 d = recvPay m ρ c b o := by
  show (match keyOf (keySem (b, true, o)) with
    | some (b, true, o) => recvPay m ρ c b o
    | some (b, false, o) => sendPay m ρ c b o
    | none => (iprop(emp) : sProp 𝕄)) = _
  rw [keyOf_keySem]

theorem payload_send (b : Fin 2) (o d : Fin 32) : (sched (F := F) m ρ).payload (keyCell c (b, false, o)) 0 d = sendPay m ρ c b o := by
  show (match keyOf (keySem (b, false, o)) with
    | some (b, true, o) => recvPay m ρ c b o
    | some (b, false, o) => sendPay m ρ c b o
    | none => (iprop(emp) : sProp 𝕄)) = _
  rw [keyOf_keySem]

/-- All a barrier round hands over. -/
theorem rest_bar : bigSep ((sched (F := F) m ρ).duties (barCell c) 0 \ ∅) (fun d => (sched (F := F) m ρ).payload (barCell c) 0 d)
    = bigSep offs fun d => (barPay c d : sProp 𝕄) := by
  rw [Finset.sdiff_empty, duties_bar]; rfl

theorem rest_recv (b : Fin 2) {o : Fin 32} (h : o ≠ 0) :
    bigSep ((sched (F := F) m ρ).duties (keyCell c (b, true, o)) 0 \ ∅) (fun d => (sched (F := F) m ρ).payload (keyCell c (b, true, o)) 0 d) = recvPay m ρ c b o := by
  rw [Finset.sdiff_empty, duties_key_ne m ρ c (k := (b, true, o)) h, bigSep_singleton, payload_recv]

theorem rest_send (b : Fin 2) {o : Fin 32} (h : o ≠ 0) :
    bigSep ((sched (F := F) m ρ).duties (keyCell c (b, false, o)) 0 \ ∅) (fun d => (sched (F := F) m ρ).payload (keyCell c (b, false, o)) 0 d) = sendPay m ρ c b o := by
  rw [Finset.sdiff_empty, duties_key_ne m ρ c (k := (b, false, o)) h, bigSep_singleton, payload_send]

end Facts

/-! ## What each device owes at launch; the levels -/

/-- The entry signals to the offsets of `S`. -/
def oBar (c : Dev nD) (S : Finset (Fin 32)) : CellTallies nD τ sig Unit := ∑ o ∈ S, tallyAt (barCell (peer c o)) () 1
/-- The transfers of plane `b` to the offsets of `S`. -/
def oRecv (c : Dev nD) (b : Fin 2) (S : Finset (Fin 32)) : CellTallies nD τ sig Unit := ∑ o ∈ S, tallyAt (keyCell (peer c o) (b, true, -o)) () N
/-- After the handshake a device owes its 62 transfers, -/
def O₁ (c : Dev nD) : CellTallies nD τ sig Unit := oRecv c 0 offs + oRecv c 1 offs
/-- at launch also its 31 signals. -/
def O₀ (c : Dev nD) : CellTallies nD τ sig Unit := oBar c offs + O₁ c

theorem oBar_insert (c : Dev nD) {S : Finset (Fin 32)} {o : Fin 32} (h : o ∉ S) :
    oBar c (insert o S) = oBar c S + tallyAt (barCell (peer c o)) () 1 := by
  unfold oBar; rw [Finset.sum_insert h, add_comm]
theorem oRecv_insert (c : Dev nD) (b : Fin 2) {S : Finset (Fin 32)} {o : Fin 32} (h : o ∉ S) :
    oRecv c b (insert o S) = oRecv c b S + tallyAt (keyCell (peer c o) (b, true, -o)) () N := by
  unfold oRecv; rw [Finset.sum_insert h, add_comm]
theorem oBar_empty (c : Dev nD) : oBar c ∅ = 0 := Finset.sum_empty
theorem oRecv_empty (c : Dev nD) (b : Fin 2) : oRecv c b ∅ = 0 := Finset.sum_empty

def L (g : GSem nD τ sig) : Finset Unit := if g.1.2 = .tc then {()} else ∅

/-- Barrier cells at 1, receive cells at 2, everything else (staging, send) at 0. -/
def semLv : SemLoc sig → ℕ
  | .reg _ => 1
  | .dma q => match keyOf q with
    | some (_, true, _) => 2
    | _ => 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (b : Fin 2) (o : Fin 32) (u : Unit) : lv (keyCell c (b, true, o)) u = 2 := by
  show (match keyOf (keySem (b, true, o)) with | some (_, true, _) => 2 | _ => 0) = 2
  rw [keyOf_keySem]

theorem oBar_apply (c : Dev nD) (S : Finset (Fin 32)) (g : GSem nD τ sig) (u : Unit) :
    oBar c S g u = ∑ o ∈ S, (tallyAt (barCell (peer c o)) () 1 : CellTallies nD τ sig Unit) g u := by
  unfold oBar; rw [Finset.sum_apply, Finsupp.finset_sum_apply]
theorem oRecv_apply (c : Dev nD) (b : Fin 2) (S : Finset (Fin 32)) (g : GSem nD τ sig) (u : Unit) :
    oRecv c b S g u = ∑ o ∈ S, (tallyAt (keyCell (peer c o) (b, true, -o)) () N : CellTallies nD τ sig Unit) g u := by
  unfold oRecv; rw [Finset.sum_apply, Finsupp.finset_sum_apply]

theorem oBar_pos {c : Dev nD} {S : Finset (Fin 32)} {g : GSem nD τ sig} {u : Unit} (h : 0 < oBar c S g u) : ∃ o ∈ S, g = barCell (peer c o) := by
  rw [oBar_apply] at h
  obtain ⟨o, ho, hp⟩ := Finset.exists_ne_zero_of_sum_ne_zero (Nat.pos_iff_ne_zero.mp h)
  rw [tallyAt_apply] at hp
  exact ⟨o, ho, by by_contra hn; exact hp (if_neg fun h' => hn h'.1)⟩
theorem oRecv_pos {c : Dev nD} {b : Fin 2} {S : Finset (Fin 32)} {g : GSem nD τ sig} {u : Unit} (h : 0 < oRecv c b S g u) :
    ∃ o ∈ S, g = keyCell (peer c o) (b, true, -o) := by
  rw [oRecv_apply] at h
  obtain ⟨o, ho, hp⟩ := Finset.exists_ne_zero_of_sum_ne_zero (Nat.pos_iff_ne_zero.mp h)
  rw [tallyAt_apply] at hp
  exact ⟨o, ho, by by_contra hn; exact hp (if_neg fun h' => hn h'.1)⟩

theorem O₁_pos {c : Dev nD} {g : GSem nD τ sig} {u : Unit} (h : 0 < O₁ c g u) : ∃ b o, g = keyCell (peer c o) (b, true, -o) := by
  unfold O₁ at h
  rw [Pi.add_apply, Finsupp.add_apply] at h
  rcases Nat.add_pos_iff_pos_or_pos.mp h with h | h <;> obtain ⟨o, -, rfl⟩ := oRecv_pos h <;> exact ⟨_, o, rfl⟩
theorem O₀_pos {c : Dev nD} {g : GSem nD τ sig} {u : Unit} (h : 0 < O₀ c g u) :
    (∃ o, g = barCell (peer c o)) ∨ ∃ b o, g = keyCell (peer c o) (b, true, -o) := by
  unfold O₀ at h
  rw [Pi.add_apply, Finsupp.add_apply] at h
  rcases Nat.add_pos_iff_pos_or_pos.mp h with h | h
  · obtain ⟨o, -, rfl⟩ := oBar_pos h; exact Or.inl ⟨o, rfl⟩
  · exact Or.inr (O₁_pos h)

omit [FloatOps F] in
/-- At its barrier wait a device owes receive cells only, above the barrier. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨b, o, rfl⟩ := O₁_pos hg; rw [L_tc]; exact Finset.mem_singleton_self _)
    (fun p hp => by rw [Finset.mem_singleton.mp hp]; exact le_refl 1)
    (fun g u hg => by obtain ⟨b, o, rfl⟩ := O₁_pos hg; rw [lv_recv]; decide)

omit [FloatOps F] in
/-- At the staging waits a device owes what it owed at launch, or nothing. -/
theorem mayWait_stage (c : Dev nD) (q : DmaSem sig) (hq : keyOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨o, rfl⟩ | ⟨b, o, rfl⟩ <;> rw [L_tc] <;> exact Finset.mem_singleton_self _)
      (fun p hp => by
        rw [Finset.mem_singleton.mp hp]
        show (match keyOf q with | some (_, true, _) => 2 | _ => 0) ≤ 0
        rw [hq])
      (fun g u hg => by
        rcases O₀_pos hg with ⟨o, rfl⟩ | ⟨b, o, rfl⟩
        · exact Nat.one_pos
        · rw [lv_recv]; decide)
  · rw [MayWait_zero]; iintro -; iempintro

end Cert.KernelIdeal.Run

end
-- ==== Proof.Steps.lean ====
/-
# The loops, one iteration at a time

A rule for a loop over the offsets from the rule of one iteration (`wp_loop`), and the rule of one iteration of each of the five
loops: what it takes, what it leaves, and what the device still owes after it.
-/
module

public import proofs.«01_k».proof.Proof.Sched

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a piece of the body on device `c`. -/
abbrev wpc (c : Dev nD) (p : Body F) (Q : PUnit → sProp 𝕄) : sProp 𝕄 :=
  wp frame (wpE (defs₀ (F := F)) 𝒱₀ (c : Thread nD τ) none) Set.univ p Q

/-! ## The rule of a loop -/

/-- The offsets of the last `n` iterations. -/
def rem (n : ℕ) : Finset (Fin 32) := Finset.univ.filter fun o => 32 ≤ o.val + n

theorem mem_rem {n : ℕ} {o : Fin 32} : o ∈ rem n ↔ 32 ≤ o.val + n := by simp [rem]
theorem rem_zero : rem 0 = ∅ := by
  ext o; rw [mem_rem]; have := o.isLt; simp
theorem rem_all : rem 31 = offs := by decide +kernel
theorem offAt_notMem {n : ℕ} (hn : n < 31) : offAt n ∉ rem n := by
  rw [mem_rem]; show ¬ 32 ≤ 31 - n + n; omega
theorem rem_succ {n : ℕ} (hn : n < 31) : rem (n + 1) = insert (offAt n) (rem n) := by
  ext o; rw [Finset.mem_insert, mem_rem, mem_rem, Fin.ext_iff]; show _ ↔ o.val = 31 - n ∨ _; have := o.isLt; omega
theorem offAt_ne {n : ℕ} (hn : n < 31) : offAt n ≠ 0 := fun h => by
  have := congrArg Fin.val h; have h' : 31 - n = 0 := this; omega

omit [FloatOps F] in
theorem bigSep_add {S : Finset (Fin 32)} {o : Fin 32} (h : o ∉ S) (Φ : Fin 32 → sProp 𝕄) :
    bigSep (insert o S) Φ = iprop(Φ o ∗ bigSep S Φ) := bigSep_insert h

theorem loop_aux {c : Dev nD} {step : Fin 32 → Body F → Body F} {Q : PUnit → sProp 𝕄} {R : sProp 𝕄} [BI.Persistent R]
    (A : Finset (Fin 32) → sProp 𝕄) (pre post : Fin 32 → sProp 𝕄)
    (h : ∀ o, o ≠ 0 → ∀ S, o ∉ S → ∀ k, iprop(R ∗ A (insert o S) ∗ pre o ∗ ((A S ∗ post o) -∗ wpc c k Q)) ⊢ wpc c (step o k) Q) (k : Body F) :
    ∀ n, n ≤ 31 → iprop(R ∗ A (rem n) ∗ bigSep (rem n) pre ∗ ((A ∅ ∗ bigSep (rem n) post) -∗ wpc c k Q)) ⊢ wpc c (loop step n k) Q
  | 0, _ => by
    rw [rem_zero, bigSep_empty, bigSep_empty]
    iintro ⟨-, HA, -, Hk⟩
    iapply Hk
    isplitl [HA]; · iexact HA
    iempintro
  | n + 1, hn => by
    rw [rem_succ (by omega), bigSep_add (offAt_notMem (by omega)), bigSep_add (offAt_notMem (by omega))]
    show _ ⊢ wpc c (step (offAt n) (loop step n k)) Q
    iintro ⟨#HR, HA, ⟨Hp, Hps⟩, Hk⟩
    iapply (h (offAt n) (offAt_ne (by omega)) (rem n) (offAt_notMem (by omega)) (loop step n k))
    isplitr; · iexact HR
    isplitl [HA]; · iexact HA
    isplitl [Hp]; · iexact Hp
    iintro ⟨HA, Hpost⟩
    iapply (loop_aux A pre post h k n (by omega))
    isplitr; · iexact HR
    isplitl [HA]; · iexact HA
    isplitl [Hps]; · iexact Hps
    iintro ⟨HA, Hposts⟩
    iapply Hk
    isplitl [HA]; · iexact HA
    isplitl [Hpost]; · iexact Hpost
    iexact Hposts

/-- A loop over the offsets from one iteration: an iteration at `o` takes `pre o`, leaves `post o`, and moves `A` from the offsets
    still to come with `o` to those without. -/
theorem wp_loop {c : Dev nD} {step : Fin 32 → Body F → Body F} {Q : PUnit → sProp 𝕄} {R : sProp 𝕄} [BI.Persistent R]
    (A : Finset (Fin 32) → sProp 𝕄) (pre post : Fin 32 → sProp 𝕄)
    (h : ∀ o, o ≠ 0 → ∀ S, o ∉ S → ∀ k, iprop(R ∗ A (insert o S) ∗ pre o ∗ ((A S ∗ post o) -∗ wpc c k Q)) ⊢ wpc c (step o k) Q) (k : Body F) :
    iprop(R ∗ A offs ∗ bigSep offs pre ∗ ((A ∅ ∗ bigSep offs post) -∗ wpc c k Q)) ⊢ wpc c (loop step 31 k) Q := by
  have := loop_aux A pre post h k 31 le_rfl
  rwa [rem_all] at this

/-! ## What every device knows: the cells' invariants, and that every cell is at its round -/

/-- The cells of the protocol on one device: its barrier cell and the 128 of its transfers. -/
abbrev Cl : Type := Option Key
abbrev clSem : Cl → SemLoc sig
  | none => .reg barS
  | some k => .dma (keySem k)
abbrev clCell (x : Dev nD × Cl) : GSem nD τ sig := ((x.1 : Thread nD τ), clSem x.2)

def records (K : Dev nD × Cl → ℕ) : sProp 𝕄 :=
  iprop((bigSep Finset.univ fun x : Dev nD × Cl => cellInv ER (sched m ρ) (K x) (clCell x))
    ∗ bigSep Finset.univ fun x : Dev nD × Cl => reached ER (clCell x) 0)

instance records_persistent (K : Dev nD × Cl → ℕ) : BI.Persistent (records m ρ K) := by unfold records; infer_instance

theorem inv_bar (K : Dev nD × Cl → ℕ) (c : Dev nD) : records m ρ K ⊢ cellInv ER (sched m ρ) (K (c, none)) (barCell c) :=
  sep_elim_left.trans (bigSep_elim (Finset.mem_univ (c, (none : Cl))))
theorem inv_key (K : Dev nD × Cl → ℕ) (c : Dev nD) (k : Key) : records m ρ K ⊢ cellInv ER (sched m ρ) (K (c, some k)) (keyCell c k) :=
  sep_elim_left.trans (bigSep_elim (Finset.mem_univ (c, (some k : Cl))))
theorem reached_bar (K : Dev nD × Cl → ℕ) (c : Dev nD) : records m ρ K ⊢ reached ER (barCell c) 0 :=
  sep_elim_right.trans (bigSep_elim (Finset.mem_univ (c, (none : Cl))))
theorem reached_key (K : Dev nD × Cl → ℕ) (c : Dev nD) (k : Key) : records m ρ K ⊢ reached ER (keyCell c k) 0 :=
  sep_elim_right.trans (bigSep_elim (Finset.mem_univ (c, (some k : Cl))))

/-- What the device owes, whatever it has waited on. -/
def owing (c : Dev nD) (O : CellTallies nD τ sig Unit) : sProp 𝕄 := iprop(∃ W, owes (c : Thread nD τ) O W)

section Steps

variable (K : Dev nD × Cl → ℕ) (c : Dev nD)

/-! ## One entry signal -/

/-- What the signal to offset `o` takes: the token of that duty, and the two slots it hands over. -/
def signalPre (o : Fin 32) : sProp 𝕄 :=
  iprop(dutyTok ER (barCell (peer c o)) 0 o ∗ (∃ f, slotPts c o 0 fullShare f) ∗ ∃ f, slotPts c o 1 fullShare f)

theorem wp_signalStep {Q : PUnit → sProp 𝕄} (O : CellTallies nD τ sig Unit) (o : Fin 32) (ho : o ≠ 0) (S : Finset (Fin 32)) (hS : o ∉ S) (k : Body F) :
    iprop(records m ρ K ∗ owing c (oBar c (insert o S) + O) ∗ signalPre c o ∗ ((owing c (oBar c S + O) ∗ emp) -∗ wpc c k Q))
      ⊢ wpc c (signalStep c o k) Q := by
  unfold signalPre owing signalStep
  rw [peerDev_eq]
  iintro ⟨#HR, ⟨%W, HO⟩, ⟨Htok, H0, H1⟩, Hk⟩
  iapply (Rounds.wp_signal 𝒱₀ ER (sched m ρ) (c : Thread nD τ) none (dst := (peer c o : Thread nD τ)) (κ := K (peer c o, none))
      (d := o) (by rw [duties_bar]; exact mem_offs.mpr ho) ((amount_bar m ρ (peer c o) o).trans (by decide)) ()
      (O₀ := oBar c (insert o S) + O) (oBar c S + O) ((congrArg (· + O) (oBar_insert c hS)).trans (add_right_comm _ _ _))) $$ [HO Htok H0 H1]
  · isplitr; · iapply (inv_bar m ρ K (peer c o)); iexact HR
    isplitl [HO]; · iexact HO
    isplitl [Htok]; · iexact Htok
    isplitl [H0 H1]
    · rw [payload_bar]; unfold barPay; rw [peer_neg]
      isplitl [H0] <;> iassumption
    iapply (reached_bar m ρ K (peer c o)); iexact HR
  iintro HO
  iapply Hk
  isplitl [HO]; · iexists W; iexact HO
  iempintro

/-! ## One transfer -/

/-- What the transfer of plane `b` to offset `o` takes: the tokens of its two duties, its share of the source slot, the target slot. -/
def sendPre (b : Fin 2) (o : Fin 32) : sProp 𝕄 :=
  iprop(dutyTok ER (keyCell c (b, false, o)) 0 0 ∗ dutyTok ER (keyCell (peer c o) (b, true, -o)) 0 0
    ∗ slotPts c 0 b (part o) (stats m ρ c) ∗ ∃ f, slotPts (peer c o) (-o) b fullShare f)
/-- What it leaves: the credit for its end. -/
def sendPost (b : Fin 2) (o : Fin 32) : sProp 𝕄 := cred (tallyAt (keyCell c (b, false, o)) () N)

/-- The start of a transfer to device `t` on given semaphores. -/
def sendTo (M : Memref sig .tc .vmem S32x2x8x128 .f32) (b : Fin 2) (t : Dev nD) (o : Fin 32) (sS sR : DmaSem sig) (k : Body F) : Body F :=
  .op (.enqueueDma (slot M 0 b) (.remote (Dev.tc t) (slot M (-o) b) (.dma sS)) (.dma sR)
    (slot_words M 0 b) (slot_words M (-o) b) ⟨⟨rfl, Or.inl rfl⟩, trivial⟩) fun _ => k

theorem sendStep_eq (b : Fin 2) (o : Fin 32) (k : Body F) :
    sendStep sM (sems b false) (sems b true) b c o k = sendTo sM b (peer c o) o (keySem (b, false, o)) (keySem (b, true, -o)) k := by
  rw [← peerDev_eq, ← semAt_sems, ← semAt_sems]; rfl

/-- The transfer of slot `(0, b)` to slot `(-o, b)` of the device at offset `o`, by the library's rule for an addressed transfer. -/
theorem wp_transfer {Q : PUnit → sProp 𝕄} (b : Fin 2) (O : CellTallies nD τ sig Unit) (o : Fin 32) (ho : o ≠ 0) (S : Finset (Fin 32)) (hS : o ∉ S)
    (W : Waits sig Unit) (fd : Buf (Elt F) ((peer c o : Thread nD τ).loc cc0_scratch0)) (k : Body F) :
    iprop(cellInv ER (sched m ρ) (K (c, some (b, false, o))) (keyCell c (b, false, o))
        ∗ cellInv ER (sched m ρ) (K (peer c o, some (b, true, -o))) (keyCell (peer c o) (b, true, -o))
        ∗ slotPts c 0 b (part o) (stats m ρ c) ∗ slotPts (peer c o) (-o) b fullShare fd
        ∗ owes (c : Thread nD τ) (oRecv c b (insert o S) + O) W
        ∗ dutyTok ER (keyCell c (b, false, o)) 0 0 ∗ reached ER (keyCell c (b, false, o)) 0
        ∗ dutyTok ER (keyCell (peer c o) (b, true, -o)) 0 0 ∗ reached ER (keyCell (peer c o) (b, true, -o)) 0)
      ⊢ iprop(((cred (tallyAt (keyCell c (b, false, o)) () N) ∗ owes (c : Thread nD τ) (oRecv c b S + O) W) -∗ wpc c k Q)
          -∗ wpc c (sendStep sM (sems b false) (sems b true) b c o k) Q) := by
  rw [slotPts_eq, slotPts_eq]
  rw [sendStep_eq]; unfold wpc sendTo
  exact Rounds.wp_send_pointsTo 𝒱₀ ER (sched m ρ) (c : Thread nD τ) none (κ₁ := K (c, some (b, false, o))) (κ₂ := K (peer c o, some (b, true, -o)))
    (c' := (peer c o : Thread nD τ)) (src := slot sM 0 b) (dst := slot sM (-o) b) (sS := .dma (keySem (b, false, o))) (sem := .dma (keySem (b, true, -o)))
    (hsc := rfl) (hsrc := slot_words sM 0 b) (hdst := slot_words sM (-o) b) (hsem := ⟨⟨rfl, Or.inl rfl⟩, trivial⟩) (k := fun _ => k) (Q := Q) (defs := defs₀) (Es := Set.univ) (q := part o) (fs := stats m ρ c) (fd := fd)
    (r₁ := 0) (r₂ := 0) (d₁ := 0) (d₂ := 0)
    (by rw [duties_key_ne m ρ c (k := (b, false, o)) ho]; exact Finset.mem_singleton_self _)
    (by rw [duties_key_ne m ρ (peer c o) (k := (b, true, -o)) ((neg_ne_zero' o).mpr ho)]; exact Finset.mem_singleton_self _)
    () () N (credit_slot (-o) b) (amount_key m ρ c (b, false, o) 0) (amount_key m ρ (peer c o) (b, true, -o) 0)
    (O₀ := oRecv c b (insert o S) + O) (oRecv c b S + O) ((congrArg (· + O) (oRecv_insert c b hS)).trans (add_right_comm _ _ _)) (W := W)
    (by rw [payload_send, ← slotPts_eq]; exact BI.Entails.refl _)
    (by
      rw [payload_recv]; unfold recvPay
      exact Entails.of_eq ((slotPts_eq (peer c o) (-o) b fullShare _).symm.trans
        (slotPts_congr (peer c o) (-o) b fullShare (transfer_stats m ρ c o b fd))))

theorem wp_sendStep {Q : PUnit → sProp 𝕄} (b : Fin 2) (O : CellTallies nD τ sig Unit) (o : Fin 32) (ho : o ≠ 0) (S : Finset (Fin 32)) (hS : o ∉ S) (k : Body F) :
    iprop(records m ρ K ∗ owing c (oRecv c b (insert o S) + O) ∗ sendPre m ρ c b o ∗ ((owing c (oRecv c b S + O) ∗ sendPost c b o) -∗ wpc c k Q))
      ⊢ wpc c (sendStep sM (sems b false) (sems b true) b c o k) Q := by
  unfold sendPre sendPost owing
  iintro ⟨#HR, ⟨%W, HO⟩, ⟨Ht₁, Ht₂, Hs, ⟨%fd, Hd⟩⟩, Hk⟩
  ihave H := (wp_transfer m ρ K c b O o ho S hS W fd k (Q := Q)) $$ [HO Ht₁ Ht₂ Hs Hd]
  · isplitr; · iapply (inv_key m ρ K c (b, false, o)); iexact HR
    isplitr; · iapply (inv_key m ρ K (peer c o) (b, true, -o)); iexact HR
    isplitl [Hs]; · iexact Hs
    isplitl [Hd]; · iexact Hd
    isplitl [HO]; · iexact HO
    isplitl [Ht₁]; · iexact Ht₁
    isplitr; · iapply (reached_key m ρ K c (b, false, o)); iexact HR
    isplitl [Ht₂]; · iexact Ht₂
    iapply (reached_key m ρ K (peer c o) (b, true, -o)); iexact HR
  iapply H
  iintro ⟨Hc, HO⟩
  iapply Hk
  isplitl [HO]; · iexists W; iexact HO
  iexact Hc

/-! ## One wait on a cell of the transfers -/

/-- The credit and the position a wait on the cell `k` takes. -/
def waitPre (k : Key) : sProp 𝕄 := iprop(cred (tallyAt (keyCell c k) () N) ∗ atPos ER (keyCell c k) 0 ∅ 0)

/-- A wait on a cell of the transfers, the device owing nothing: the cell's payload, and its counter, closed at zero. -/
theorem wp_waitKey {Q : PUnit → sProp 𝕄} (key : Key) (ho : key.2.2 ≠ 0) {src dst : Memref sig .tc .vmem S8x128 .f32} {h₁ : src.view.WordExact} {h₂ : dst.view.WordExact}
    (hN : dst.view.dmaCredit = N) (k : Body F) :
    iprop(records m ρ K ∗ owing c 0 ∗ waitPre c key
        ∗ ((owing c 0 ∗ bigSep ((sched m ρ).duties (keyCell c key) 0 \ ∅) (fun d => (sched m ρ).payload (keyCell c key) 0 d) ∗ semVal (keyCell c key) 0) -∗ wpc c k Q))
      ⊢ wpc c (.op (.waitDma2 (keySem key) src dst h₁ h₂) fun _ => k) Q := by
  unfold waitPre owing
  iintro ⟨#HR, ⟨%W, HO⟩, ⟨Hc, Hat⟩, Hk⟩
  iapply (Rounds.wp_wait_rest_token 𝒱₀ ER (sched m ρ) (c : Thread nD τ) none (κ := K (c, some key))
      (wpE_waitDma2_eq 𝒱₀ (c : Thread nD τ) none Set.univ) (Set.mem_univ _) () (O := 0) (W := W) (R := 0) (m := 0) (T := ∅)
      (by rw [Nat.zero_add, expect_key m ρ c ho, hN])) $$ [Hc HO Hat]
  · isplitr; · iapply (inv_key m ρ K c key); iexact HR
    isplitl [Hc]; · rw [hN]; iexact Hc
    isplitl [HO]; · iexact HO
    isplitr; · rw [MayWait_zero]; iempintro
    iexact Hat
  iintro ⟨HO, Hat, -, Hpay⟩
  imod (Rounds.cell_close ER (sched m ρ) (Set.mem_univ (K (c, some key))) (fun h => h) (R := 0 + 1) (duties_later m ρ (keyCell c key))) $$ [Hat] with Hz
  · isplitr; · iapply (inv_key m ρ K c key); iexact HR
    iexact Hat
  iapply Hk
  isplitl [HO]; · iexists _; iexact HO
  isplitl [Hpay] <;> iassumption

/-- What the two waits at slot `o` take and leave. -/
def recvPre (o : Fin 32) : sProp 𝕄 := iprop(waitPre c (0, true, o) ∗ waitPre c (1, true, o))
def recvPost (o : Fin 32) : sProp 𝕄 :=
  iprop((recvPay m ρ c 0 o ∗ semVal (keyCell c (0, true, o)) 0) ∗ recvPay m ρ c 1 o ∗ semVal (keyCell c (1, true, o)) 0)

theorem wp_recvStep {Q : PUnit → sProp 𝕄} (o : Fin 32) (ho : o ≠ 0) (S : Finset (Fin 32)) (hS : o ∉ S) (k : Body F) :
    iprop(records m ρ K ∗ owing c 0 ∗ recvPre c o ∗ ((owing c 0 ∗ recvPost m ρ c o) -∗ wpc c k Q))
      ⊢ wpc c (recvStep sM (sems 0 true) (sems 1 true) o k) Q := by
  unfold recvPre recvPost recvStep
  simp only [semAt_sems]
  iintro ⟨#HR, HO, ⟨H0, H1⟩, Hk⟩
  iapply (wp_waitKey m ρ K c (0, true, o) ho (src := slot sM o 0) (dst := slot sM o 0) (credit_slot o 0))
  isplitr; · iexact HR
  isplitl [HO]; · iexact HO
  isplitl [H0]; · iexact H0
  iintro ⟨HO, Hp0, Hz0⟩
  iapply (wp_waitKey m ρ K c (1, true, o) ho (src := slot sM o 1) (dst := slot sM o 1) (credit_slot o 1))
  isplitr; · iexact HR
  isplitl [HO]; · iexact HO
  isplitl [H1]; · iexact H1
  iintro ⟨HO, Hp1, Hz1⟩
  ihave Hp0 := (Entails.of_eq (rest_recv m ρ c 0 ho)) $$ Hp0
  ihave Hp1 := (Entails.of_eq (rest_recv m ρ c 1 ho)) $$ Hp1
  iapply Hk
  isplitl [HO]; · iexact HO
  isplitl [Hp0 Hz0]
  · isplitl [Hp0] <;> iassumption
  isplitl [Hp1] <;> iassumption

/-- What the wait for the end of the transfer at offset `o` leaves. -/
def drainPost (b : Fin 2) (o : Fin 32) : sProp 𝕄 := iprop(sendPay m ρ c b o ∗ semVal (keyCell c (b, false, o)) 0)

theorem wp_drainStep {Q : PUnit → sProp 𝕄} (b : Fin 2) (o : Fin 32) (ho : o ≠ 0) (S : Finset (Fin 32)) (hS : o ∉ S) (k : Body F) :
    iprop(records m ρ K ∗ owing c 0 ∗ waitPre c (b, false, o) ∗ ((owing c 0 ∗ drainPost m ρ c b o) -∗ wpc c k Q))
      ⊢ wpc c (drainStep sM (sems b false) b o k) Q := by
  unfold drainPost drainStep
  simp only [semAt_sems]
  iintro ⟨#HR, HO, H, Hk⟩
  iapply (wp_waitKey m ρ K c (b, false, o) ho (src := slot sM (-o) b) (dst := slot sM 0 b) (credit_slot 0 b))
  isplitr; · iexact HR
  isplitl [HO]; · iexact HO
  isplitl [H]; · iexact H
  rw [rest_send m ρ c b ho]
  iexact Hk

end Steps

end Cert.KernelIdeal.Run

end
-- ==== Proof.Slots.lean ====
/-
# The buffer of the statistics, taken apart and put together

The loops hold one slot each; the two final loads read a plane of 32 slots at once, of which slot 0 is still lent to the transfers: they
read it at the share no transfer holds.
-/
module

public import proofs.«01_k».proof.Proof.Steps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Indices
omit [FloatOps F]

/-- Offset 0 apart from the others. -/
theorem bigSep_zero_offs (Φ : Fin 32 → sProp 𝕄) : bigSep Finset.univ Φ = iprop(Φ 0 ∗ bigSep offs Φ) :=
  bigSep_erase (Finset.mem_univ (0 : Fin 32))

/-- The offset the other way round the devices. -/
def negEquiv : Fin 32 ≃ Fin 32 := ⟨fun o => -o, fun o => -o, by decide +kernel, by decide +kernel⟩

theorem offs_map_neg : offs.map negEquiv.toEmbedding = offs := by decide +kernel

/-- The offsets run through backwards. -/
theorem bigSep_offs_neg (Φ : Fin 32 → sProp 𝕄) : bigSep offs Φ = bigSep offs fun o => Φ (-o) := by
  conv_lhs => rw [← offs_map_neg, bigSep_map]
  rfl

theorem bigSep_two (Φ : Fin 2 → sProp 𝕄) : bigSep Finset.univ Φ = iprop(Φ 0 ∗ Φ 1) := bigSep_fin_two Φ

theorem bigSep_bool (Φ : Bool → sProp 𝕄) : bigSep Finset.univ Φ = iprop(Φ true ∗ Φ false) := by
  rw [show (Finset.univ : Finset Bool) = {true, false} from rfl, bigSep_insert (by decide), bigSep_singleton]; rfl

theorem bigSep_pair {I : Type} (S : Finset I) (Φ Ψ : I → sProp 𝕄) :
    (bigSep S fun i => iprop(Φ i ∗ Ψ i)) = iprop(bigSep S Φ ∗ bigSep S Ψ) := bigSep_sep S Φ Ψ

theorem sep_arrange (A₀ A B₀ B C₀ C D₀ D : sProp 𝕄) :
    iprop(((A₀ ∗ A) ∗ B₀ ∗ B) ∗ (C₀ ∗ C) ∗ D₀ ∗ D) = iprop(B ∗ D ∗ (A ∗ C) ∗ B₀ ∗ D₀ ∗ A₀ ∗ C₀) := by
  have h : iprop(((A₀ ∗ A) ∗ B₀ ∗ B) ∗ (C₀ ∗ C) ∗ D₀ ∗ D) ⊢ iprop(B ∗ D ∗ (A ∗ C) ∗ B₀ ∗ D₀ ∗ A₀ ∗ C₀) := by
    iintro ⟨⟨⟨H1, H2⟩, H3, H4⟩, ⟨H5, H6⟩, H7, H8⟩
    iframe
  have h' : iprop(B ∗ D ∗ (A ∗ C) ∗ B₀ ∗ D₀ ∗ A₀ ∗ C₀) ⊢ iprop(((A₀ ∗ A) ∗ B₀ ∗ B) ∗ (C₀ ∗ C) ∗ D₀ ∗ D) := by
    iintro ⟨H1, H2, ⟨H3, H4⟩, H5, H6, H7, H8⟩
    iframe
  exact equiv_iff.mp ⟨h, h'⟩

/-- One thing per cell of the transfers, arranged as the loops take them. -/
theorem bigSep_keys (Φ : Key → sProp 𝕄) : bigSep Finset.univ Φ
    = iprop((bigSep offs fun o => Φ (0, false, o)) ∗ (bigSep offs fun o => Φ (1, false, o))
        ∗ (bigSep offs fun o => iprop(Φ (0, true, o) ∗ Φ (1, true, o)))
        ∗ Φ (0, false, 0) ∗ Φ (1, false, 0) ∗ Φ (0, true, 0) ∗ Φ (1, true, 0)) := by
  have hp (b : Fin 2) : (bigSep Finset.univ fun x : Bool × Fin 32 => Φ (b, x))
      = iprop((Φ (b, true, 0) ∗ bigSep offs fun o => Φ (b, true, o)) ∗ Φ (b, false, 0) ∗ bigSep offs fun o => Φ (b, false, o)) := by
    rw [bigSep_univ_prod, bigSep_bool, bigSep_zero_offs, bigSep_zero_offs]
  rw [bigSep_univ_prod, bigSep_two, hp, hp, bigSep_pair]
  exact sep_arrange _ _ _ _ _ _ _ _

end Indices

variable (c : Dev nD)

section Slots
omit [FloatOps F]

/-- The buffer of the statistics is its 64 slots. -/
theorem scratch_slots (f : Buf (Elt F) ((c : Thread nD τ).loc cc0_scratch0)) :
    (((c : Thread nD τ).loc cc0_scratch0 ↦{fullShare} f) : sProp 𝕄)
      = iprop((slotPts c 0 0 fullShare f ∗ slotPts c 0 1 fullShare f)
          ∗ (bigSep offs fun o => slotPts c o 0 fullShare f) ∗ bigSep offs fun o => slotPts c o 1 fullShare f) := by
  rw [← bigSep_pair, ← bigSep_zero_offs fun o => iprop(slotPts c o 0 fullShare f ∗ slotPts c o 1 fullShare f)]
  refine (congrArg (fun S : Finset S32x2x8x128.Idx => (((c : Thread nD τ).loc cc0_scratch0 ↦[S]{fullShare} f) : sProp 𝕄)) slotSet_cover.symm).trans ?_
  refine (pointsTo_biUnion (ℓ := (c : Thread nD τ).loc cc0_scratch0) Finset.univ (fun p : Fin 32 × Fin 2 => slotSet p.1 p.2)
    fun p _ p' _ h => slotSet_disjoint p p' h).trans ?_
  rw [bigSep_univ_prod]
  exact bigSep_congr fun o _ => bigSep_two _

/-- The elements of plane `b`. -/
def planeSet (b : Fin 2) : Finset S32x2x8x128.Idx := Finset.univ.biUnion fun o => slotSet o b

theorem mem_planeSet (b : Fin 2) (i : S32x2x8x128.Idx) : i ∈ planeSet b ↔ i (1 : Fin 4) = b := by
  simp only [planeSet, Finset.mem_biUnion, Finset.mem_univ, true_and, mem_slotSet]
  exact ⟨fun ⟨_, _, h⟩ => h, fun h => ⟨_, rfl, h⟩⟩

/-- A plane is its 32 slots. -/
theorem plane_slots (b : Fin 2) (q : PosShare TreeShare) (f : Buf (Elt F) ((c : Thread nD τ).loc cc0_scratch0)) :
    (((c : Thread nD τ).loc cc0_scratch0 ↦[planeSet b]{q} f) : sProp 𝕄)
      = iprop(slotPts c 0 b q f ∗ bigSep offs fun o => slotPts c o b q f) := by
  rw [← bigSep_zero_offs fun o => slotPts c o b q f]
  exact pointsTo_biUnion (ℓ := (c : Thread nD τ).loc cc0_scratch0) Finset.univ (fun o => slotSet o b)
    fun o _ o' _ h => slotSet_disjoint (o, b) (o', b) fun h' => h (congrArg Prod.fst h')

end Slots

/-- The load of a whole plane, slot 0 held at the share no transfer reads. -/
theorem wp_loadPlane {Q : PUnit → sProp 𝕄} (b : Fin 2) (f : Buf (Elt F) ((c : Thread nD τ).loc cc0_scratch0)) {r : LoadRect S32x2x8x128}
    (hr : sM.view.setOn r.set ⊆ planeSet b) {hl : sM.view.LoadsAt r} {k : (r.shape.Idx → Elt F .f32) → Body F} :
    iprop(slotPts c 0 b (part 0) f ∗ (bigSep offs fun o => slotPts c o b fullShare f)
        ∗ ((slotPts c 0 b (part 0) f ∗ (bigSep offs fun o => slotPts c o b fullShare f)) -∗ wpc c (k (sM.view.readAt (Elt F) r f)) Q))
      ⊢ wpc c (.op (.load sM r hl) k) Q := by
  have hd : (bigSep offs fun o => (slotPts c o b fullShare f : sProp 𝕄))
      = iprop((bigSep offs fun o => slotPts c o b (part 0) f) ∗ bigSep offs fun o => bigSep offs fun i => slotPts c o b (part i) f) := by
    rw [← bigSep_pair]; exact bigSep_congr fun o _ => slotPts_deal c o b f
  rw [hd]
  iintro ⟨H0, ⟨Hs, Hr⟩, Hk⟩
  ihave Hp := (Entails.of_eq (plane_slots c b (part 0) f).symm) $$ [H0 Hs]
  · isplitl [H0] <;> iassumption
  iapply (wp_load 𝒱₀ (c : Thread nD τ) none Set.univ (m := sM) (S := planeSet b) (q := part 0) (f := f) hr) $$ Hp
  iintro Hp
  ihave ⟨H0, Hs⟩ := (Entails.of_eq (plane_slots c b (part 0) f)) $$ Hp
  iapply Hk
  iframe

/-- The store of the device's own statistic `b` into slot `(0, b)`, with the load before it. -/
theorem wp_storeStat {Q : PUnit → sProp 𝕄} (b : Fin 2) {h₁ : sM.view.LoadsAt (slotRect 0 b).toLoadRect}
    {h₂ : (sM.access (slotRect 0 b)).Stores Finset.univ} {h₃ : (Finset.univ : Finset (slotRect 0 b).shape.Idx) = Finset.univ ∨ ∀ a, (slotRect 0 b).stride a = 1} {k : Body F} :
    iprop((∃ f, slotPts c 0 b fullShare f) ∗ (slotPts c 0 b fullShare (stats m ρ c) -∗ wpc c k Q))
      ⊢ wpc c (.op (.load sM (slotRect 0 b).toLoadRect h₁) fun _ =>
          .op (.store sM (slotRect 0 b) (stat b (xstg m ρ c)) Finset.univ h₂ h₃) fun _ => k) Q := by
  have hs : (sM.access (slotRect 0 b)).setOn Finset.univ = slotSet 0 b := View.set_slice_whole _ _
  have hl : sM.view.setOn (slotRect 0 b).toLoadRect.set ⊆ slotSet 0 b := by
    intro i hi
    obtain ⟨j, hj, rfl⟩ := Finset.mem_map.mp hi
    exact hj
  iintro ⟨⟨%f, H⟩, Hk⟩
  ihave H := (Entails.of_eq (show slotPts c 0 b fullShare f = (sM.view.loc (c : Thread nD τ) ↦[slotSet 0 b]{fullShare} f) from rfl)) $$ H
  iapply (wp_load 𝒱₀ (c : Thread nD τ) none Set.univ (m := sM) (S := slotSet 0 b) (f := f) hl) $$ H; iintro H
  iapply (wp_store 𝒱₀ (c : Thread nD τ) none Set.univ (m := sM) (r := slotRect 0 b) (Mk := Finset.univ) (S := slotSet 0 b) (f := f) hs.subset) $$ H; iintro H
  iapply Hk
  iapply (Entails.of_eq (show ((sM.access (slotRect 0 b)).loc (c : Thread nD τ) ↦[slotSet 0 b]{fullShare}
      ((sM.access (slotRect 0 b)).write (Elt F) f (stat b (xstg m ρ c)) Finset.univ)) = slotPts c 0 b fullShare (stats m ρ c) from
    slotPts_congr c 0 b fullShare (store_stats m ρ c b f)))
  iexact H

end Cert.KernelIdeal.Run

end
-- ==== Proof.Body.lean ====
/-
# The body on one device

The five loops, each as one rule; then the body from what the launch hands a device to the device's block of the result.
-/
module

public import proofs.«01_k».proof.Proof.Slots

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cl → ℕ) (c : Dev nD)

/-! ## What the loops take -/

/-- The tokens of the two duties the transfer of plane `b` to offset `o` pays. -/
def sendTok (b : Fin 2) (o : Fin 32) : sProp 𝕄 :=
  iprop(dutyTok ER (keyCell c (b, false, o)) 0 0 ∗ dutyTok ER (keyCell (peer c o) (b, true, -o)) 0 0)
/-- The slot a transfer of plane `b` to offset `o` writes. -/
def target (b : Fin 2) (o : Fin 32) : sProp 𝕄 := iprop(∃ f, slotPts (peer c o) (-o) b fullShare f)
/-- The credit for the two arrivals in slot `o`. -/
def recvCred (o : Fin 32) : sProp 𝕄 :=
  iprop(cred (tallyAt (keyCell c (0, true, o)) () N) ∗ cred (tallyAt (keyCell c (1, true, o)) () N))
/-- The position before the only round of a cell of the transfers. -/
abbrev at0 (k : Key) : sProp 𝕄 := atPos ER (keyCell c k) 0 ∅ 0
/-- The counter of a cell of the transfers at zero. -/
abbrev zero (k : Key) : sProp 𝕄 := semVal (keyCell c k) 0

theorem owing_zero (b : Fin 2) (O : CellTallies nD τ sig Unit) : (owing c (oRecv c b ∅ + O) : sProp 𝕄) = owing c O := by
  rw [oRecv_empty, zero_add]

/-! ## The handshake -/

/-- The 31 signals and the wait for 31: the device's slots at offsets other than 0 go, the slots it will write come. -/
theorem wp_handshake {Q : PUnit → sProp 𝕄} (k : Body F) :
    iprop(records m ρ K ∗ levAts L lv ∗ owing c (O₀ c) ∗ (bigSep offs (signalPre c)) ∗ cred (tallyAt (barCell c) () 31) ∗ atPos ER (barCell c) 0 ∅ 0
        ∗ ((owing c (O₁ c) ∗ semVal (barCell c) 0 ∗ (bigSep offs (target c 0)) ∗ bigSep offs (target c 1)) -∗ wpc c k Q))
      ⊢ wpc c (loop (signalStep c) 31 (.op (.semWait barS (31#32).toInt) fun _ => k)) Q := by
  iintro ⟨#HR, #Hlev, HO, Hpre, Hc, Hat, Hk⟩
  iapply (wp_loop (c := c) (R := records m ρ K) (fun S => owing c (oBar c S + O₁ c)) (signalPre c) (fun _ => iprop(emp))
    fun o ho S hS k => wp_signalStep m ρ K c (O₁ c) o ho S hS k)
  isplitr; · iexact HR
  isplitl [HO]; · iexact HO
  isplitl [Hpre]; · iexact Hpre
  iintro ⟨HO, -⟩
  rw [oBar_empty, zero_add]
  unfold owing
  icases HO with ⟨%W, HO⟩
  iapply (Rounds.wp_wait_rest_token 𝒱₀ ER (sched m ρ) (c : Thread nD τ) none (κ := K (c, none))
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  imod (Rounds.cell_close ER (sched m ρ) (Set.mem_univ (K (c, none))) (fun h => h) (R := 0 + 1) (duties_later m ρ (barCell c))) $$ [Hat] with Hz
  · isplitr; · iapply (inv_bar m ρ K c); iexact HR
    iexact Hat
  have hp : (bigSep offs fun d => (barPay c d : sProp 𝕄)) = iprop(bigSep offs (target c 0) ∗ bigSep offs (target c 1)) := by
    rw [bigSep_offs_neg, ← bigSep_pair]
    refine bigSep_congr fun o _ => ?_
    unfold barPay target
    rw [show -(-o) = o from negEquiv.left_inv o]
  ihave ⟨H0, H1⟩ := (Entails.of_eq ((rest_bar m ρ c).trans hp)) $$ Hpay
  iapply Hk
  isplitl [HO]; · iexists _; iexact HO
  isplitl [Hz]; · iexact Hz
  isplitl [H0] <;> iassumption

/-! ## The transfers of one plane -/

/-- The 31 transfers of plane `b`; of slot `(0, b)` the device keeps one share. -/
theorem wp_sendLoop {Q : PUnit → sProp 𝕄} (b : Fin 2) (O : CellTallies nD τ sig Unit) (k : Body F) :
    iprop(records m ρ K ∗ owing c (oRecv c b offs + O) ∗ (bigSep offs (sendTok c b)) ∗ slotPts c 0 b fullShare (stats m ρ c) ∗ (bigSep offs (target c b))
        ∗ ((owing c O ∗ slotPts c 0 b (part 0) (stats m ρ c) ∗ bigSep offs (sendPost c b)) -∗ wpc c k Q))
      ⊢ wpc c (loop (sendStep sM (sems b false) (sems b true) b c) 31 k) Q := by
  have hpre : iprop((bigSep offs (sendTok c b)) ∗ (bigSep offs fun o => slotPts c 0 b (part o) (stats m ρ c)) ∗ bigSep offs (target c b))
      ⊢ (bigSep offs (sendPre m ρ c b) : sProp 𝕄) := by
    rw [← bigSep_pair, ← bigSep_pair]
    refine bigSep_mono fun o _ => ?_
    show iprop(sendTok c b o ∗ slotPts c 0 b (part o) (stats m ρ c) ∗ target c b o) ⊢ sendPre m ρ c b o
    unfold sendTok target sendPre
    iintro ⟨⟨H1, H2⟩, H3, H4⟩
    iframe
  rw [slotPts_deal]
  iintro ⟨#HR, HO, Htok, ⟨Hkeep, Hlend⟩, Htgt, Hk⟩
  ihave Hpre := hpre $$ [Htok Hlend Htgt]
  · iframe
  iapply (wp_loop (c := c) (R := records m ρ K) (fun S => owing c (oRecv c b S + O)) (sendPre m ρ c b) (sendPost c b)
    fun o ho S hS k => wp_sendStep m ρ K c b O o ho S hS k)
  isplitr; · iexact HR
  isplitl [HO]; · iexact HO
  isplitl [Hpre]; · iexact Hpre
  rw [owing_zero]
  iintro ⟨HO, Hpost⟩
  iapply Hk
  iframe

/-! ## The arrivals -/

/-- The waits for the 62 arrivals: every slot at an offset other than 0 comes, holding its device's statistic. -/
theorem wp_recvLoop {Q : PUnit → sProp 𝕄} (k : Body F) :
    iprop(records m ρ K ∗ owing c 0 ∗ (bigSep offs (recvCred c)) ∗ (bigSep offs fun o => iprop(at0 c (0, true, o) ∗ at0 c (1, true, o)))
        ∗ ((owing c 0 ∗ (bigSep offs fun o => slotPts c o 0 fullShare (stats m ρ c)) ∗ (bigSep offs fun o => slotPts c o 1 fullShare (stats m ρ c))
            ∗ bigSep offs fun o => iprop(zero c (0, true, o) ∗ zero c (1, true, o))) -∗ wpc c k Q))
      ⊢ wpc c (loop (recvStep sM (sems 0 true) (sems 1 true)) 31 k) Q := by
  have hpre : iprop((bigSep offs (recvCred c)) ∗ bigSep offs fun o => iprop(at0 c (0, true, o) ∗ at0 c (1, true, o)))
      ⊢ (bigSep offs (recvPre c) : sProp 𝕄) := by
    rw [← bigSep_pair]
    refine bigSep_mono fun o _ => ?_
    show iprop(recvCred c o ∗ at0 c (0, true, o) ∗ at0 c (1, true, o)) ⊢ recvPre c o
    unfold recvCred recvPre waitPre
    iintro ⟨⟨H1, H2⟩, H3, H4⟩
    iframe
  have hpost : (bigSep offs (recvPost m ρ c) : sProp 𝕄) ⊢ iprop((bigSep offs fun o => slotPts c o 0 fullShare (stats m ρ c))
      ∗ (bigSep offs fun o => slotPts c o 1 fullShare (stats m ρ c)) ∗ bigSep offs fun o => iprop(zero c (0, true, o) ∗ zero c (1, true, o))) := by
    rw [← bigSep_pair offs (fun o => slotPts c o 1 fullShare (stats m ρ c)), ← bigSep_pair]
    refine bigSep_mono fun o _ => ?_
    show recvPost m ρ c o ⊢ iprop(slotPts c o 0 fullShare (stats m ρ c) ∗ slotPts c o 1 fullShare (stats m ρ c) ∗ zero c (0, true, o) ∗ zero c (1, true, o))
    unfold recvPost recvPay
    iintro ⟨⟨H1, H2⟩, H3, H4⟩
    iframe
  iintro ⟨#HR, HO, Hc, Hat, Hk⟩
  ihave Hpre := hpre $$ [Hc Hat]
  · iframe
  iapply (wp_loop (c := c) (R := records m ρ K) (fun _ => owing c 0) (recvPre c) (recvPost m ρ c)
    fun o ho S hS k => wp_recvStep m ρ K c o ho S hS k)
  isplitr; · iexact HR
  isplitl [HO]; · iexact HO
  isplitl [Hpre]; · iexact Hpre
  iintro ⟨HO, Hpost⟩
  ihave ⟨H1, H2, H3⟩ := hpost $$ Hpost
  iapply Hk
  iframe

/-! ## The ends of the transfers of one plane -/

/-- The waits for the 31 transfers of plane `b` to have left: slot `(0, b)` is whole again. -/
theorem wp_drainLoop {Q : PUnit → sProp 𝕄} (b : Fin 2) (k : Body F) :
    iprop(records m ρ K ∗ owing c 0 ∗ (bigSep offs (sendPost c b)) ∗ (bigSep offs fun o => at0 c (b, false, o)) ∗ slotPts c 0 b (part 0) (stats m ρ c)
        ∗ ((owing c 0 ∗ slotPts c 0 b fullShare (stats m ρ c) ∗ bigSep offs fun o => zero c (b, false, o)) -∗ wpc c k Q))
      ⊢ wpc c (loop (drainStep sM (sems b false) b) 31 k) Q := by
  have hpre : iprop((bigSep offs (sendPost c b)) ∗ bigSep offs fun o => at0 c (b, false, o))
      ⊢ (bigSep offs (fun o => waitPre c (b, false, o)) : sProp 𝕄) := by
    rw [← bigSep_pair]; exact Entails.of_eq rfl
  have hpost : (bigSep offs (drainPost m ρ c b) : sProp 𝕄)
      = iprop((bigSep offs fun o => slotPts c 0 b (part o) (stats m ρ c)) ∗ bigSep offs fun o => zero c (b, false, o)) := by
    rw [← bigSep_pair]; rfl
  rw [slotPts_deal]
  iintro ⟨#HR, HO, Hc, Hat, Hkeep, Hk⟩
  ihave Hpre := hpre $$ [Hc Hat]
  · iframe
  iapply (wp_loop (c := c) (R := records m ρ K) (fun _ => owing c 0) (fun o => waitPre c (b, false, o)) (drainPost m ρ c b)
    fun o ho S hS k => wp_drainStep m ρ K c b o ho S hS k)
  isplitr; · iexact HR
  isplitl [HO]; · iexact HO
  isplitl [Hpre]; · iexact Hpre
  iintro ⟨HO, Hpost⟩
  ihave ⟨H1, H2⟩ := (Entails.of_eq hpost) $$ Hpost
  iapply Hk
  iframe

/-- A cell at offset 0 is never used: its counter is at zero. -/
theorem close_zero (b : Fin 2) (r : Bool) : iprop(records m ρ K ∗ at0 c (b, r, 0)) ⊢ |={Set.univ}=> (zero c (b, r, 0) : sProp 𝕄) := by
  iintro ⟨#HR, Hat⟩
  iapply (Rounds.cell_close ER (sched m ρ) (Set.mem_univ (K (c, some (b, r, 0)))) (fun h => h) (R := 0) (duties_key_zero m ρ c (k := (b, r, 0)) rfl))
  isplitr; · iapply (inv_key m ρ K c (b, r, 0)); iexact HR
  iexact Hat

end Cert.KernelIdeal.Run

end
-- ==== Proof.Sound.lean ====
/-
# The kernel's body against the pipeline

What a device starts from and what it leaves, and the body between the two.
-/
module

public import proofs.«01_k».proof.Proof.Body
public import proofs.«01_k».proof.Proof.Gen.KernelIdeal.Points

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The maxima and the sums of all devices as device `c` reads them: row `o` is the statistic of the device at offset `o`. -/
def allMax (c : Dev nD) : Vec F S32x1x8x128 .f32 := sM.view.readAt (Elt F) rAM.toLoadRect (stats m ρ c)
def allSum (c : Dev nD) : Vec F S32x1x8x128 .f32 := sM.view.readAt (Elt F) rAS.toLoadRect (stats m ρ c)

/-- The kernel's result on device `c`. -/
def outAt (c : Dev nD) : (cc0_stg1_0 : Ref sig .tc).ty.Contents (Elt F) :=
  k0_pay9 (k0_pay2 (xstg m ρ c)) (k0_pay7 (allMax m ρ c)) (k0_pay8 (allSum m ρ c))
    (k0_pay5 (k0_pay1 (xstg m ρ c)) (k0_pay2 (xstg m ρ c)))

/-! ## The pipeline's proof data -/

/-- What the launch's ghost state leaves device `c`. -/
def ghost (K : Dev nD × Cl → ℕ) (c : Dev nD) : sProp 𝕄 :=
  iprop(records m ρ K ∗ atPos ER (barCell c) 0 ∅ 0 ∗ (bigSep Finset.univ (at0 c))
    ∗ (bigSep offs fun o => dutyTok ER (barCell (peer c o)) 0 o) ∗ (bigSep offs (sendTok c 0)) ∗ bigSep offs (sendTok c 1))

/-- That at some names, the device's credit and the levels. -/
def start (c : Dev nD) : sProp 𝕄 :=
  iprop((∃ K, ghost m ρ K c) ∗ cred (tallyAt (barCell c) () 31) ∗ (bigSep offs (recvCred c)) ∗ levAts L lv)

/-- The buffer of the statistics, whatever it holds. -/
def scratch (c : Dev nD) : sProp 𝕄 := iprop(∃ f, ((c : Thread nD τ).loc cc0_scratch0) ↦{fullShare} f)

def Φ₀ (c : Dev nD) : sProp 𝕄 := iprop(start m ρ c ∗ scratch c)
/-- After the body every counter is at zero. -/
def Φ₁ (c : Dev nD) : sProp 𝕄 := iprop(scratch c ∗ (bigSep Finset.univ (zero c)) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem corner : (![0, 0] : Fin 2 → Nat) = fun _ => 0 := funext fun a => by fin_cases a <;> rfl
omit [FloatOps F] in
theorem read_x (f : (cc0_stg0_0 : Ref sig .tc).ty.Contents (Elt F)) : xM.view.readAt (Elt F) rX.toLoadRect f = f :=
  Memref.readAt_unit_zero (Elt F) cc0_stg0_0 corner _ f
omit [FloatOps F] in
theorem read_out (f : (cc0_stg1_0 : Ref sig .tc).ty.Contents (Elt F)) : oM.view.readAt (Elt F) rX.toLoadRect f = f :=
  Memref.readAt_unit_zero (Elt F) cc0_stg1_0 corner _ f
omit [FloatOps F] in
theorem write_out (f w : (cc0_stg1_0 : Ref sig .tc).ty.Contents (Elt F)) :
    ((oM : Memref sig .tc .vmem S1024x1024 .f32).access rX : View sig .tc _ _ _).write (Elt F) f w Finset.univ = w :=
  Memref.write_access_unit_zero_univ (Elt F) cc0_stg1_0 corner _ f w

omit [FloatOps F] in
/-- The two plane loads stay within their planes. -/
theorem rAM_plane : sM.view.setOn rAM.toLoadRect.set ⊆ planeSet 0 := by
  intro i hi
  obtain ⟨j, hj, rfl⟩ := Finset.mem_map.mp hi
  have h := (Rect.mem_set_unit (s := S32x2x8x128)).mp hj (1 : Fin 4)
  rw [mem_planeSet]
  exact Fin.ext (Nat.lt_one_iff.mp h.2)
omit [FloatOps F] in
theorem rAS_plane : sM.view.setOn rAS.toLoadRect.set ⊆ planeSet 1 := by
  intro i hi
  obtain ⟨j, hj, rfl⟩ := Finset.mem_map.mp hi
  have h := (Rect.mem_set_unit (s := S32x2x8x128)).mp hj (1 : Fin 4)
  rw [mem_planeSet]
  exact Fin.ext (le_antisymm (Nat.lt_succ_iff.mp h.2) h.1)

/-! ## The body -/

section Body

variable (K : Dev nD × Cl → ℕ) (c : Dev nD)

/-- A staging buffer holding `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Everything the body holds at its start, the names fixed. -/
def bodyIn : sProp 𝕄 :=
  iprop(ghost m ρ K c ∗ cred (tallyAt (barCell c) () 31) ∗ (bigSep offs (recvCred c)) ∗ levAts L lv ∗ scratch c ∗ owing c (O₀ c)
    ∗ (((c : Thread nD τ).loc cc0_stg0_0) ↦{fullShare} xstg m ρ c) ∗ ∃ f, ((c : Thread nD τ).loc cc0_stg1_0) ↦{fullShare} f)

/-- and at its end. -/
def bodyOut : sProp 𝕄 :=
  iprop(Φ₁ c ∗ owing c 0 ∗ (((c : Thread nD τ).loc cc0_stg0_0) ↦{fullShare} xstg m ρ c) ∗ ((c : Thread nD τ).loc cc0_stg1_0) ↦{fullShare} outAt m ρ c)

omit [FloatOps F] in
/-- What the signals take, from the tokens and the slots at the other offsets. -/
theorem signalPre_all (f : Buf (Elt F) ((c : Thread nD τ).loc cc0_scratch0)) :
    iprop((bigSep offs fun o => dutyTok ER (barCell (peer c o)) 0 o) ∗ (bigSep offs fun o => slotPts c o 0 fullShare f) ∗ bigSep offs fun o => slotPts c o 1 fullShare f)
      ⊢ (bigSep offs (signalPre c) : sProp 𝕄) := by
  rw [← bigSep_pair, ← bigSep_pair]
  refine bigSep_mono fun o _ => ?_
  show iprop(dutyTok ER (barCell (peer c o)) 0 o ∗ slotPts c o 0 fullShare f ∗ slotPts c o 1 fullShare f) ⊢ signalPre c o
  unfold signalPre
  iintro ⟨H1, H2, H3⟩
  isplitl [H1]; · iexact H1
  isplitl [H2]; · iexists f; iexact H2
  iexists f; iexact H3

set_option maxHeartbeats 800000 in
/-- The body, from `bodyIn` to `bodyOut`. -/
theorem sound_loops (Kt : PUnit → sProp 𝕄) :
    iprop(bodyIn m ρ K c ∗ (bodyOut m ρ c -∗ Kt ⟨⟩))
      ⊢ wpc c (bodyLoops xM oM sM (sems 0 false) (sems 0 true) (sems 1 false) (sems 1 true)) Kt := by
  unfold bodyIn ghost scratch bodyLoops wpc
  iintro ⟨⟨⟨#HR, HatB, Hats, HtB, HtS0, HtS1⟩, HcB, HcR, #Hlev, ⟨%fs, Hscr⟩, HO, Hx, ⟨%fo, Hout⟩⟩, Hk⟩
  ihave ⟨Hat0, Hat1, HatR, Hz00, Hz10, Hz01, Hz11⟩ := (Entails.of_eq (bigSep_keys (at0 (F := F) c))) $$ Hats
  ihave ⟨⟨Hs00, Hs01⟩, Hs0, Hs1⟩ := (Entails.of_eq (scratch_slots c fs)) $$ Hscr
  ihave Hsig := (signalPre_all c fs) $$ [HtB Hs0 Hs1]
  · iframe
  rw [wp_deviceId]
  -- the handshake
  iapply (wp_handshake m ρ K c)
  isplitr; · iexact HR
  isplitr; · iexact Hlev
  isplitl [HO]; · iexact HO
  isplitl [Hsig]; · iexact Hsig
  isplitl [HcB]; · iexact HcB
  isplitl [HatB]; · iexact HatB
  iintro ⟨HO, HzB, Htg0, Htg1⟩
  -- the device's maxima, sent
  iapply (wp_load 𝒱₀ (c : Thread nD τ) none Set.univ (m := xM) (Finset.subset_univ _)) $$ Hx; iintro Hx
  rw [read_x]
  iapply (wp_storeStat m ρ c 0)
  isplitl [Hs00]; · iexists fs; iexact Hs00
  iintro Hs00
  iapply (wp_sendLoop m ρ K c 0 (oRecv c 1 offs))
  isplitr; · iexact HR
  isplitl [HO]; · unfold O₁; iexact HO
  isplitl [HtS0]; · iexact HtS0
  isplitl [Hs00]; · iexact Hs00
  isplitl [Htg0]; · iexact Htg0
  iintro ⟨HO, Hs00, Hp0⟩
  -- the exponentials, and the device's sums, sent
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  iapply (wp_storeStat m ρ c 1)
  isplitl [Hs01]; · iexists fs; iexact Hs01
  iintro Hs01
  iapply (wp_sendLoop m ρ K c 1 0)
  isplitr; · iexact HR
  isplitl [HO]; · rw [add_zero]; iexact HO
  isplitl [HtS1]; · iexact HtS1
  isplitl [Hs01]; · iexact Hs01
  isplitl [Htg1]; · iexact Htg1
  iintro ⟨HO, Hs01, Hp1⟩
  -- the arrivals
  iapply (wp_recvLoop m ρ K c)
  isplitr; · iexact HR
  isplitl [HO]; · iexact HO
  isplitl [HcR]; · iexact HcR
  isplitl [HatR]; · iexact HatR
  iintro ⟨HO, Hs0, Hs1, HzR⟩
  -- the result
  iapply (wp_loadPlane c 0 (stats m ρ c) rAM_plane)
  isplitl [Hs00]; · iexact Hs00
  isplitl [Hs0]; · iexact Hs0
  iintro ⟨Hs00, Hs0⟩
  iapply (wp_loadPlane c 1 (stats m ρ c) rAS_plane)
  isplitl [Hs01]; · iexact Hs01
  isplitl [Hs1]; · iexact Hs1
  iintro ⟨Hs01, Hs1⟩
  iapply (wp_load 𝒱₀ (c : Thread nD τ) none Set.univ (m := oM) (Finset.subset_univ _)) $$ Hout; iintro Hout
  rw [read_out]
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the transfers have left
  iapply (wp_drainLoop m ρ K c 0)
  isplitr; · iexact HR
  isplitl [HO]; · iexact HO
  isplitl [Hp0]; · iexact Hp0
  isplitl [Hat0]; · iexact Hat0
  isplitl [Hs00]; · iexact Hs00
  iintro ⟨HO, Hs00, Hz0⟩
  iapply (wp_drainLoop m ρ K c 1)
  isplitr; · iexact HR
  isplitl [HO]; · iexact HO
  isplitl [Hp1]; · iexact Hp1
  isplitl [Hat1]; · iexact Hat1
  isplitl [Hs01]; · iexact Hs01
  iintro ⟨HO, Hs01, Hz1⟩
  -- the four cells never used
  imod (close_zero m ρ K c 0 false) $$ [Hz00] with Hz00
  · isplitr; · iexact HR
    iexact Hz00
  imod (close_zero m ρ K c 1 false) $$ [Hz10] with Hz10
  · isplitr; · iexact HR
    iexact Hz10
  imod (close_zero m ρ K c 0 true) $$ [Hz01] with Hz01
  · isplitr; · iexact HR
    iexact Hz01
  imod (close_zero m ρ K c 1 true) $$ [Hz11] with Hz11
  · isplitr; · iexact HR
    iexact Hz11
  rw [wp_ret]; imodintro
  iapply Hk
  unfold bodyOut Φ₁ scratch
  isplitl [Hs00 Hs01 Hs0 Hs1 Hz0 Hz1 HzR Hz00 Hz10 Hz01 Hz11 HzB]
  · isplitl [Hs00 Hs01 Hs0 Hs1]
    · iexists (stats m ρ c)
      iapply (Entails.of_eq (scratch_slots c (stats m ρ c)).symm)
      iframe
    isplitl [Hz0 Hz1 HzR Hz00 Hz10 Hz01 Hz11]
    · iapply (Entails.of_eq (bigSep_keys (zero (F := F) c)).symm)
      iframe
    iexact HzB
  isplitl [HO]; · iexact HO
  isplitl [Hx]; · iexact Hx
  iexact Hout

/-- What the pipeline hands the body, and what it takes back. -/
def bodyPre : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost : sProp 𝕄 :=
  iprop(Φ₁ c ∗ (dats m ρ 0 c).owesAt () t0_0.succ ∗ stg c cc0_stg0_0 (xstg m ρ c) ∗ stg c cc0_stg1_0 (outAt m ρ c))

theorem bodyPre_in : bodyPre m ρ c ⊢ iprop(∃ K, bodyIn m ρ K c) := by
  unfold bodyPre Φ₀ start bodyIn Dat.owesAt Pipeline.owesWithin owing
  rw [show (dats m ρ 0 c).owed t0_0.castSucc = O₀ c from rfl]
  iintro ⟨⟨⟨⟨%K, Hg⟩, HcB, HcR, Hlev⟩, Hscr⟩, ⟨%W, %hW, HO⟩, ⟨%d0, %g0, %hg0, Hx⟩, ⟨%d1, %g1, %hg1, Hout⟩⟩
  have hx : g0 = xstg m ρ c := by rw [hg0]; unfold Dat.before; rw [if_pos (show (cfg0.win (0 : Fin 2)).fetch t0_0 = true from rfl)]; rfl
  subst hx
  iexists K
  isplitl [Hg]; · iexact Hg
  isplitl [HcB]; · iexact HcB
  isplitl [HcR]; · iexact HcR
  isplitl [Hlev]; · iexact Hlev
  isplitl [Hscr]; · iexact Hscr
  isplitl [HO]; · iexists W; iexact HO
  isplitl [Hx]; · iexact Hx
  iexists g1; iexact Hout

theorem bodyOut_post : bodyOut m ρ c ⊢ bodyPost m ρ c := by
  unfold bodyPost bodyOut Dat.owesAt Pipeline.owesWithin owing
  rw [show (dats m ρ 0 c).owed t0_0.succ = 0 from rfl]
  iintro ⟨HΦ, ⟨%W, HO⟩, Hx, Hout⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

theorem sound_body : bodyPre m ρ c ⊢ wpc c (bodyLoops xM oM sM (sems 0 false) (sems 0 true) (sems 1 false) (sems 1 true)) fun _ => bodyPost m ρ c := by
  refine (bodyPre_in m ρ c).trans ?_
  iintro ⟨%K, H⟩
  iapply (sound_loops m ρ K c fun _ => bodyPost m ρ c)
  isplitl [H]; · iexact H
  iintro H
  iapply (bodyOut_post m ρ c); iexact H

/-- The call the pipeline makes at its point is the program of loops on the staging buffers. -/
theorem call_eq : defs₀ (F := F) Proc.tc 0 (t0_0, cfg0.slots t0_0)
    = bodyLoops xM oM sM (sems 0 false) (sems 0 true) (sems 1 false) (sems 1 true) := by
  have h : defs₀ (F := F) Proc.tc 0 (t0_0, cfg0.slots t0_0) = bodyAt0 t0_0 := by
    unfold defs₀ Defs.onTc; rfl
  refine h.trans ((body_eq _ _ _ _ _ _ _ _ _ _).trans ?_)
  have h0 : win0_0.stage (cfg0.slots t0_0 0) = xM := rfl
  have h1 : win0_1.stage (cfg0.slots t0_0 1) = oM := rfl
  rw [h0, h1]; rfl

/-- The pipeline's obligation on device `c`. -/
theorem body_obligation : BodyObligation (dats (F := F) m ρ 0 c) (defs₀ (F := F)) 𝒱₀ () Set.univ := fun t => by
  rw [fin_N0 t]
  rw [bigSep_W0, bigSep_W0]
  simp only [owns_whole_eq]
  rw [call_eq]
  change bodyPre m ρ c ⊢ _
  refine (sound_body m ρ c).trans ?_
  unfold wpc
  generalize bodyLoops (F := F) xM oM sM (sems 0 false) (sems 0 true) (sems 1 false) (sems 1 true) = P
  refine wp_mono Idealize.ShloMosaic.frame (wpE defs₀ 𝒱₀ c.tc none) Set.univ fun _ => ?_
  unfold bodyPost
  rw [show (dats m ρ 0 c).Φ t0_0.succ = Φ₁ c from rfl]
  iintro ⟨H1, H2, H3, H4⟩
  isplitl [H1]; · iexact H1
  isplitl [H2]; · iexact H2
  isplitl [H3]; · iexact H3
  iexact H4

end Body

end Cert.KernelIdeal.Run

end
-- ==== Proof.Launch.lean ====
/-
# The launch

The ghost state the launch mints, dealt so that each device holds the tokens of the duties it pays; the credit for what it is
owed; and the run of the whole program from these and the body's proof.
-/
module

public import proofs.«01_k».proof.Proof.Sound
public import Idealize.ShloMosaic.Lib.Pipeline.Launch
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The semaphores the kernel declares: the 128 of its transfers. -/
abbrev osem (k : Key) : SemLoc sig := .dma (keySem k)

theorem ownSemFacts : Pipeline.OwnSemFacts cfg0.spec osem := by decide +kernel

theorem share_eq (c : Dev nD) (w : Fin cfg0.W) : (dats m ρ 0 c).share w = fullShare := by unfold Dat.share; split <;> rfl

/-! ## The cells and the tokens -/

theorem clSem_inj : Function.Injective clSem := by
  rintro (_ | k) (_ | k') h
  · rfl
  · cases h
  · cases h
  · exact congrArg some (keySem_inj (SemLoc.dma.inj h))

theorem clCell_inj : Function.Injective (clCell : Dev nD × Cl → GSem nD τ sig) := by
  rintro ⟨c, k⟩ ⟨c', k'⟩ h
  have h1 : c = c' := congrArg (fun g : GSem nD τ sig => g.1.1) h
  have h2 : k = k' := clSem_inj (congrArg Prod.snd h)
  rw [h1, h2]

/-- The cells of the protocol on every device. -/
def allCells : Finset (GSem nD τ sig) := Finset.univ.map ⟨clCell, clCell_inj⟩

/-- The duties of one device's cells: its barrier's, one per offset, and one of each of its transfers' cells. -/
abbrev Tok : Type := Fin 32 ⊕ Key
abbrev tokAt (x : Dev nD × Tok) : GSem nD τ sig × ℕ × Fin 32 := match x.2 with
  | .inl o => (barCell x.1, 0, o)
  | .inr k => (keyCell x.1 k, 0, 0)

theorem tokAt_inj : Function.Injective (tokAt : Dev nD × Tok → GSem nD τ sig × ℕ × Fin 32) := by
  rintro ⟨c, t⟩ ⟨c', t'⟩ h
  rcases t with o | k <;> rcases t' with o' | k'
  · have h1 : c = c' := congrArg (fun x : GSem nD τ sig × ℕ × Fin 32 => x.1.1.1) h
    have h2 : o = o' := congrArg (fun x : GSem nD τ sig × ℕ × Fin 32 => x.2.2) h
    rw [h1, h2]
  · have h3 : (.reg barS : SemLoc sig) = .dma (keySem k') := congrArg (fun x : GSem nD τ sig × ℕ × Fin 32 => x.1.2) h
    cases h3
  · have h3 : (.dma (keySem k) : SemLoc sig) = .reg barS := congrArg (fun x : GSem nD τ sig × ℕ × Fin 32 => x.1.2) h
    cases h3
  · have h1 : c = c' := congrArg (fun x : GSem nD τ sig × ℕ × Fin 32 => x.1.1.1) h
    have h3 : (.dma (keySem k) : SemLoc sig) = .dma (keySem k') := congrArg (fun x : GSem nD τ sig × ℕ × Fin 32 => x.1.2) h
    rw [h1, keySem_inj (SemLoc.dma.inj h3)]

def allToks : Finset (GSem nD τ sig × ℕ × Fin 32) := Finset.univ.map ⟨tokAt, tokAt_inj⟩

/-- The ghost element at launch: the pipeline's, and the protocol's. -/
def u₀ : UU :=
  (initOf (Pipeline.cells cfgs cellOf_inj) (Pipeline.launchToks cfgs cellOf_inj), initOf allCells allToks)

section Deal

/-- A barrier cell's tokens and the tokens of a device's transfer cells. -/
def toks (c : Dev nD) : sProp 𝕄 :=
  iprop((bigSep Finset.univ fun o : Fin 32 => dutyTok ER (barCell c) 0 o) ∗ bigSep Finset.univ fun k : Key => dutyTok ER (keyCell c k) 0 0)

/-- Where each cell stands at launch, with the token that it stands at its first round. -/
def places (c : Dev nD) : sProp 𝕄 :=
  bigSep Finset.univ fun k : Cl => iprop(atPos ER (clCell (c, k)) 0 ∅ 0 ∗ reached ER (clCell (c, k)) 0)

/-- What the launch element deals device `c`. -/
def G (c : Dev nD) : sProp 𝕄 :=
  iprop((bigSep Finset.univ fun k : Cl => roundState ER (sched m ρ) (clCell (c, k)) 0) ∗ places c ∗ toks c)

/-- One thing per cell is one thing per device and cell of it; -/
theorem bigSep_cells (Φ : GSem nD τ sig → sProp 𝕄) :
    bigSep allCells Φ = bigSep Finset.univ fun c : Dev nD => bigSep Finset.univ fun k : Cl => Φ (clCell (c, k)) := by
  unfold allCells; rw [bigSep_map, bigSep_univ_prod]; rfl

/-- and the minted tokens are each device's. -/
theorem bigSep_toks : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_univ_sum]; rfl

theorem fund_all : BI.own (ER (initOf allCells allToks)) ⊢ (|==> bigSep Finset.univ (G m ρ) : sProp 𝕄) := by
  iintro HX
  imod (Rounds.fund ER (sched m ρ) allCells allToks) $$ HX with ⟨Hst, Hr, Hat, Htok⟩
  imodintro
  ihave Hst := (Entails.of_eq (bigSep_cells fun g => roundState ER (sched m ρ) g 0)) $$ Hst
  ihave Hat := (Entails.of_eq (bigSep_cells fun g => atPos ER g 0 ∅ 0)) $$ Hat
  ihave Hr := (Entails.of_eq (bigSep_cells fun g => reached ER g 0)) $$ Hr
  ihave Htok := (Entails.of_eq bigSep_toks) $$ Htok
  unfold G places; simp only [bigSep_sep']
  iframe

/-! ## The counters become the cells -/

/-- A thing for the barrier and one for each transfer cell. -/
theorem bigSep_cl (Φ : Cl → sProp 𝕄) : bigSep Finset.univ Φ = iprop(Φ none ∗ bigSep Finset.univ fun k : Key => Φ (some k)) := by
  rw [bigSep_univ_equiv (Equiv.optionEquivSumPUnit.{0} Key).symm Φ, bigSep_univ_sum,
    bigSep_univ_of_subsingleton PUnit.unit]
  have h (A B : sProp 𝕄) : iprop(A ∗ B) ⊢ iprop(B ∗ A) := by iintro ⟨HA, HB⟩; iframe
  exact equiv_iff.mp ⟨h _ _, h _ _⟩

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cl => semVal (clCell (c, k)) 0 : sProp 𝕄) := by
  rw [unscopedSems0_eq, bigSep_cl]
  unfold Pipeline.ownSems0
  exact sep_comm.1

/-- A device's counters at zero and its cells' round states make its cells' invariants. -/
theorem cells_alloc (c : Dev nD) :
    iprop((bigSep Finset.univ fun k : Cl => semVal (clCell (c, k)) 0) ∗ bigSep Finset.univ fun k : Cl => roundState ER (sched m ρ) (clCell (c, k)) 0)
      ⊢ (|={Set.univ}=> bigSep Finset.univ fun k : Cl => iprop(∃ κ : ℕ, cellInv ER (sched m ρ) κ (clCell (c, k))) : sProp 𝕄) := by
  rw [← bigSep_sep']
  exact (bigSep_mono fun k _ => (Rounds.body_intro ER (sched m ρ) (clCell (c, k))).trans inv_alloc).trans (bigSep_fupd _ _)

/-- What a device has once its cells are in place. -/
def placed (c : Dev nD) : sProp 𝕄 :=
  iprop((bigSep Finset.univ fun k : Cl => iprop(∃ κ : ℕ, cellInv ER (sched m ρ) κ (clCell (c, k)))) ∗ places c ∗ toks c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> placed m ρ c := by
  unfold G placed
  iintro ⟨Hos, Hus, Hst, Hat, Htok⟩
  ihave Hv := (sems0_eq (F := F) c) $$ [Hos Hus]
  · isplitl [Hos] <;> iassumption
  imod (cells_alloc m ρ c) $$ [Hv Hst] with Hinv
  · isplitl [Hv] <;> iassumption
  imodintro
  iframe

/-! ## The tokens dealt around the devices -/

/-- The device at offset `o`, as a permutation of the devices. -/
def around (o : Fin 32) : Dev nD ≃ Dev nD := ⟨fun c => peer c o, fun c => peer c (-o), fun c => peer_neg c o, fun c => neg_peer c o⟩

/-- Things indexed by a device and something else are dealt anew, the devices permuted for each. -/
theorem bigSep_deal {I : Type} [Fintype I] [DecidableEq I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [bigSep_univ_comm, bigSep_univ_comm (fun c i => Φ (e i c) i)]
  exact bigSep_congr fun i _ => bigSep_univ_equiv (e i) fun c => Φ c i

/-- The device whose cell's token goes to the device a permutation starts from: a send token stays, the token of the arrival at
    offset `o` goes to the sender. -/
def payer : Key → (Dev nD ≃ Dev nD)
  | (_, false, _) => Equiv.refl _
  | (_, true, o) => around (-o)

/-- What a device pays with: the tokens of its signals and of its transfers. -/
def payToks (c : Dev nD) : sProp 𝕄 :=
  iprop((bigSep offs fun o => dutyTok ER (barCell (peer c o)) 0 o) ∗ (bigSep offs (sendTok c 0)) ∗ bigSep offs (sendTok c 1))

/-- The tokens as dealt contain those a device pays with. -/
theorem dealt_pay (c : Dev nD) :
    iprop((bigSep Finset.univ fun o : Fin 32 => dutyTok ER (barCell (around o c)) 0 o) ∗ bigSep Finset.univ fun k : Key => dutyTok ER (keyCell (payer k c) k) 0 0)
      ⊢ (payToks c : sProp 𝕄) := by
  have hr (b : Fin 2) : (bigSep offs fun o => (dutyTok ER (keyCell (peer c (-o)) (b, true, o)) 0 0 : sProp 𝕄))
      = bigSep offs fun o => dutyTok ER (keyCell (peer c o) (b, true, -o)) 0 0 := by
    rw [bigSep_offs_neg]
    exact bigSep_congr fun o _ => by rw [show - -o = o from negEquiv.left_inv o]
  have hs (b : Fin 2) : (bigSep offs (sendTok c b) : sProp 𝕄)
      = iprop((bigSep offs fun o => dutyTok ER (keyCell c (b, false, o)) 0 0) ∗ bigSep offs fun o => dutyTok ER (keyCell (peer c (-o)) (b, true, o)) 0 0) := by
    rw [hr, ← bigSep_pair]; rfl
  unfold payToks
  rw [hs, hs, bigSep_keys, bigSep_pair, bigSep_zero_offs]
  iintro ⟨⟨-, Hb⟩, H0, H1, ⟨Hr0, Hr1⟩, -⟩
  isplitl [Hb]; · iexact Hb
  isplitl [H0 Hr0]
  · isplitl [H0]; · iexact H0
    iexact Hr0
  isplitl [H1]; · iexact H1
  iexact Hr1

theorem toks_around : (bigSep Finset.univ fun c : Dev nD => (toks c : sProp 𝕄)) ⊢ bigSep Finset.univ fun c : Dev nD => payToks c := by
  unfold toks
  rw [bigSep_pair, bigSep_deal around (fun c o => dutyTok ER (barCell c) 0 o), bigSep_deal payer (fun c k => dutyTok ER (keyCell c k) 0 0), ← bigSep_pair]
  exact bigSep_mono fun c _ => dealt_pay c

/-! ## Every device's ghost state -/

/-- What stays with one device: where its cells stand, and what it pays with. -/
def linear (c : Dev nD) : sProp 𝕄 := iprop((bigSep Finset.univ fun k : Cl => atPos ER (clCell (c, k)) 0 ∅ 0) ∗ payToks c)

theorem ghost_intro (K : Dev nD × Cl → ℕ) (c : Dev nD) : iprop(records m ρ K ∗ linear c) ⊢ iprop(∃ K, ghost m ρ K c) := by
  unfold linear payToks ghost
  rw [bigSep_cl]
  iintro ⟨#HR, ⟨Hb, Hk⟩, Hs, H0, H1⟩
  iexists K
  isplitr; · iexact HR
  isplitl [Hb]; · iexact Hb
  isplitl [Hk]; · iexact Hk
  iframe

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem places_split : (bigSep Finset.univ fun c : Dev nD => (places c : sProp 𝕄))
    = iprop((bigSep Finset.univ fun c : Dev nD => bigSep Finset.univ fun k : Cl => atPos ER (clCell (c, k)) 0 ∅ 0)
        ∗ bigSep Finset.univ fun x : Dev nD × Cl => reached ER (clCell x) 0) := by
  unfold places
  rw [bigSep_univ_prod (fun x : Dev nD × Cl => (reached ER (clCell x) 0 : sProp 𝕄)), ← bigSep_pair]
  exact bigSep_congr fun c _ => bigSep_pair _ _ _

theorem regroup : (bigSep Finset.univ fun c : Dev nD => placed m ρ c) ⊢ bigSep Finset.univ fun c => iprop(∃ K, ghost m ρ K c) := by
  unfold placed
  rw [bigSep_pair, bigSep_pair, places_split, ← bigSep_univ_prod (fun x : Dev nD × Cl => iprop(∃ κ : ℕ, cellInv ER (sched m ρ) κ (clCell x)))]
  iintro ⟨HI, ⟨Hat, #HR⟩, Htok⟩
  ihave HK := (BI.bigSep_exists_pi Finset.univ (fun (x : Dev nD × Cl) (κ : ℕ) => (cellInv ER (sched m ρ) κ (clCell x) : sProp 𝕄))) $$ HI
  icases HK with ⟨%K, #HI⟩
  ihave Htk := (toks_around (F := F)) $$ Htok
  iapply (bigSep_with (R := records m ρ K) (Φ := linear) fun c _ => ghost_intro m ρ K c)
  isplitr
  · unfold records; isplitl; · iexact HI
    iexact HR
  · iapply (Entails.of_eq (bigSep_pair Finset.univ (fun c : Dev nD => bigSep Finset.univ fun k : Cl => (atPos ER (clCell (c, k)) 0 ∅ 0 : sProp 𝕄)) payToks).symm)
    isplitl [Hat]; · iexact Hat
    iexact Htk

/-- All devices' counters and launch elements at once become their ghost states. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ fun c => iprop(∃ K, ghost m ρ K c) :=
  ((bigSep_mono fun c _ => core_alloc m ρ c).trans (bigSep_fupd _ _)).trans (BI.fupd_mono (regroup m ρ))

/-! ## The credit -/

/-- The credit for one unit of each of `S` is the credit for as many units. -/
theorem cred_units (c : Dev nD) (S : Finset (Fin 32)) :
    (bigSep S fun _ => (cred (tallyAt (barCell c) () 1) : sProp 𝕄)) ⊢ cred (tallyAt (barCell c) () S.card) := by
  rw [← Pipeline.cred_finsetSum]
  refine Entails.of_eq (congrArg cred ?_)
  rw [Finset.sum_const]
  refine funext fun g => Finsupp.ext fun u => ?_
  rw [Pi.smul_apply, Finsupp.smul_apply, tallyAt_apply, tallyAt_apply]
  split <;> simp

theorem cred_bar (c : Dev nD) : (Pipeline.launchCred (fun d => oBar d offs) c : sProp 𝕄) ⊢ cred (tallyAt (barCell c) () 31) := by
  unfold oBar
  rw [Pipeline.launchCred_sum]
  refine (bigSep_mono fun o _ => Pipeline.launchCred_tallyAt (.reg barS) (fun d => peer d o) (fun d => peer d (-o))
    (fun d => neg_peer d o) (fun d => peer_neg d o) () 1 c).trans ?_
  exact cred_units c offs

theorem cred_recv (c : Dev nD) (b : Fin 2) :
    (Pipeline.launchCred (fun d => oRecv d b offs) c : sProp 𝕄) ⊢ bigSep offs fun o => cred (tallyAt (keyCell c (b, true, o)) () N) := by
  unfold oRecv
  rw [Pipeline.launchCred_sum, bigSep_offs_neg fun o => cred (tallyAt (keyCell c (b, true, o)) () N)]
  exact bigSep_mono fun o _ => Pipeline.launchCred_tallyAt (.dma (keySem (b, true, -o))) (fun d => peer d o) (fun d => peer d (-o))
    (fun d => neg_peer d o) (fun d => peer_neg d o) () N c

/-- A device is dealt the credit for the 31 signals and the 62 transfers of the others. -/
theorem creds (c : Dev nD) :
    (Pipeline.launchCred O₀ c : sProp 𝕄) ⊢ iprop(cred (tallyAt (barCell c) () 31) ∗ bigSep offs (recvCred c)) := by
  have h : (Pipeline.launchCred O₀ c : sProp 𝕄)
      = iprop(Pipeline.launchCred (fun d => oBar d offs) c ∗ Pipeline.launchCred (fun d => oRecv d 0 offs) c ∗ Pipeline.launchCred (fun d => oRecv d 1 offs) c) := by
    rw [← Pipeline.launchCred_add, ← Pipeline.launchCred_add]; rfl
  have hr : (bigSep offs (recvCred c) : sProp 𝕄)
      = iprop((bigSep offs fun o => cred (tallyAt (keyCell c (0, true, o)) () N)) ∗ bigSep offs fun o => cred (tallyAt (keyCell c (1, true, o)) () N)) := by
    rw [← bigSep_pair]; rfl
  rw [h, hr]
  iintro ⟨Hb, H0, H1⟩
  isplitl [Hb]; · iapply (cred_bar c); iexact Hb
  isplitl [H0]; · iapply (cred_recv c 0); iexact H0
  iapply (cred_recv c 1); iexact H1

end Deal

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ∃ K, ghost m ρ K c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · iframe
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch Pipeline.ownSems0
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-- What a window's array holds on device `c` at the end. -/
def finalA (c : Dev nD) (w : Fin cfg0.W) : Buf (Elt F) ((cfg0.win w).arr.view.loc (c : Thread nD τ)) := (dats m ρ 0 c).arrAt w cfg0.N

/-- Every device's window arrays hold that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- For any float values, from any memory with zero counters: every weakly fair execution of the 32 devices' programs ends, with each
    device's window arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := fun c => iprop(∃ K, ghost m ρ K c)) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Run

end
-- ==== Proof.Frames.lean ====
/-
# The frames

Each program runs to its end, its argument is unchanged and every semaphore counter is back at zero. The compiled program and its
idealization have one text, so one run, over any float values, gives both.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem
open Cert.KernelIdeal.Run (run_main finalA_x)

/-- The idealized kernel's frame. -/
theorem frame_kernelIdeal : Cert.quiescent_KernelIdeal := fun m ρ _ =>
  (θ_run Cert.KernelIdeal.defs _ _).mono (fun _ h => ⟨fun c => (h.1 c (0 : Fin 2)).trans (finalA_x m ρ c), h.2⟩) (run_main m ρ)

/-- The compiled kernel and its idealization are one program, -/
theorem same_run {F : FTy → Type} [FloatOps F] (s : MemSt Cert.Kernel.nD Cert.Kernel.τ Cert.Kernel.sig (Elt F))
    (Q : PUnit × MemSt Cert.Kernel.nD Cert.Kernel.τ Cert.Kernel.sig (Elt F) → Prop) :
    θ_run (Cert.Kernel.defs (F := F)) (onTc (τ := Cert.Kernel.τ) (Cert.Kernel.main (F := F))) s Q
      = θ_run (Cert.KernelIdeal.defs (F := F)) (onTc (τ := Cert.KernelIdeal.τ) (Cert.KernelIdeal.main (F := F))) s Q := by
  chain_rfl

/-- so the compiled kernel's frame is from the same run, at bit patterns. -/
theorem frame_kernel : Cert.quiescent_Kernel := fun m ρ _ => by
  rw [same_run]
  exact (θ_run Cert.KernelIdeal.defs _ _).mono (fun _ h => ⟨fun c => (h.1 c (0 : Fin 2)).trans (finalA_x m ρ c), h.2⟩) (run_main (F := Bits) m ρ)

/-- The reference's frame. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

end Cert.Proof

end
-- ==== Proof.Softmax.lean ====
/-
# The softmax of a row cut into parts

One row of the array is cut into parts, one part on each device. The kernel takes each part's maximum and the part's sum of exponentials
below that maximum, and from all parts' pairs the row's maximum, the row's sum, and the factor that rescales its own exponentials. Over
the extended reals this is the softmax of the whole row as soon as each part's maximum is a real number: the entries are then real or
`⊥`, every exponential below a maximum is a real number, and the rest is real arithmetic.
-/
module

public import Idealize.ShloMosaic.PureOps.Ideal

@[expose] public section

noncomputable section

namespace Cert.Proof.Softmax

open Idealize.ShloMosaic
open scoped BigOperators

/-- The exponential of `x - M` as a real number, for `x` real or `⊥`. -/
def rexp (x : EReal) (M : ℝ) : ℝ := if x = ⊥ then 0 else Real.exp (x.toReal - M)

theorem rexp_nonneg (x : EReal) (M : ℝ) : 0 ≤ rexp x M := by
  unfold rexp; split
  · exact le_refl _
  · exact (Real.exp_pos _).le

theorem rexp_pos {x : EReal} (hx : x ≠ ⊥) (M : ℝ) : 0 < rexp x M := by
  unfold rexp; rw [if_neg hx]; exact Real.exp_pos _

theorem exp_coe (r : ℝ) : Ideal.exp (r : EReal) = (Real.exp r : EReal) := rfl

/-- It is the exponential of the difference. -/
theorem exp_sub {x : EReal} (hx : x ≠ ⊤) (M : ℝ) : Ideal.exp (x - (M : EReal)) = (rexp x M : EReal) := by
  unfold rexp
  split
  · next h => subst h; rw [EReal.bot_sub]; rfl
  · next h =>
    conv_lhs => rw [← EReal.coe_toReal hx h, ← EReal.coe_sub]
    rfl

/-- Rescaling an exponential from one maximum to another. -/
theorem rexp_mul (x : EReal) (m M : ℝ) : rexp x m * Real.exp (m - M) = rexp x M := by
  unfold rexp
  split
  · rw [zero_mul]
  · rw [← Real.exp_add]; congr 1; ring

/-- A sum of real numbers, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers, as extended reals. -/
theorem div_coe (a b : ℝ) (hb : b ≠ 0) : Ideal.div (a : EReal) (b : EReal) = ((a * b⁻¹ : ℝ) : EReal) := by
  unfold Ideal.div
  rw [if_neg (by exact_mod_cast hb), EReal.coe_mul, EReal.coe_inv]

/-- A real number that bounds every entry keeps `⊤` out. -/
theorem ne_top_of_le {x : EReal} {M : ℝ} (h : x ≤ M) : x ≠ ⊤ := fun e => by
  rw [e, top_le_iff] at h; exact EReal.coe_ne_top _ h

section Row

variable {D J : Type} [Fintype D] [Fintype J] (x : D → J → EReal)

/-- The maximum of part `d`; -/
def partMax (d : D) : EReal := Finset.univ.sup (x d)
/-- the part's sum of exponentials below it; -/
def partSum (d : D) : EReal := ∑ j, Ideal.exp (x d j - partMax x d)
/-- the maximum of the parts' maxima; -/
def allMax : EReal := Finset.univ.sup (partMax x)
/-- the parts' sums, each rescaled to that maximum, added up. -/
def allSum : EReal := ∑ d, partSum x d * Ideal.exp (partMax x d - allMax x)

/-- The kernel's result: an exponential below the part's maximum, times the part's factor. -/
def byParts (d : D) (j : J) : EReal :=
  Ideal.exp (x d j - partMax x d) * Ideal.div (Ideal.exp (partMax x d - allMax x)) (allSum x)

/-- The softmax of the whole row. -/
def whole (d : D) (j : J) : EReal :=
  Ideal.div (Ideal.exp (x d j - allMax x)) (∑ p : D × J, Ideal.exp (x p.1 p.2 - allMax x))

variable {x}

/-- With every part's maximum real, the two agree. -/
theorem byParts_eq_whole (h : ∀ d, ∃ r : ℝ, partMax x d = r) (d : D) (j : J) : byParts x d j = whole x d j := by
  choose m hm using h
  have htop : ∀ d j, x d j ≠ ⊤ := fun d j =>
    ne_top_of_le (M := m d) (by rw [← hm d]; exact Finset.le_sup (f := x d) (Finset.mem_univ j))
  obtain ⟨e, he⟩ : ∃ e, allMax x = partMax x e := by
    obtain ⟨e, _, he⟩ := Finset.exists_mem_eq_sup Finset.univ ⟨d, Finset.mem_univ d⟩ (partMax x)
    exact ⟨e, he⟩
  have hM : allMax x = (m e : EReal) := he.trans (hm e)
  have hps : ∀ d, partSum x d = ((∑ j, rexp (x d j) (m d) : ℝ) : EReal) := fun d => by
    unfold partSum
    rw [coe_sum]
    exact Finset.sum_congr rfl fun j _ => by rw [hm d, exp_sub (htop d j)]
  have hfac : ∀ d, Ideal.exp (partMax x d - allMax x) = (Real.exp (m d - m e) : EReal) := fun d => by
    rw [hm d, hM, ← EReal.coe_sub, exp_coe]
  have hsum : allSum x = ((∑ d, ∑ j, rexp (x d j) (m e) : ℝ) : EReal) := by
    unfold allSum
    rw [coe_sum]
    refine Finset.sum_congr rfl fun d _ => ?_
    rw [hps, hfac, ← EReal.coe_mul, Finset.sum_mul]
    exact congrArg _ (Finset.sum_congr rfl fun j _ => rexp_mul _ _ _)
  have hwhole : ∑ p : D × J, Ideal.exp (x p.1 p.2 - allMax x) = ((∑ d, ∑ j, rexp (x d j) (m e) : ℝ) : EReal) := by
    rw [Fintype.sum_prod_type, coe_sum]
    refine Finset.sum_congr rfl fun d _ => ?_
    rw [coe_sum]
    exact Finset.sum_congr rfl fun j _ => by rw [hM, exp_sub (htop d j)]
  have hpos : (∑ d, ∑ j, rexp (x d j) (m e) : ℝ) ≠ 0 := by
    have hne : ∃ j, x d j ≠ ⊥ := by
      by_contra hc
      have hb : partMax x d = ⊥ := (Finset.sup_eq_bot_iff _ _).2 fun j _ => by
        by_contra hj; exact hc ⟨j, hj⟩
      exact EReal.coe_ne_bot _ ((hm d).symm.trans hb)
    obtain ⟨i, hi⟩ := hne
    refine ne_of_gt (Finset.sum_pos' (fun d _ => Finset.sum_nonneg fun j _ => rexp_nonneg _ _) ⟨d, Finset.mem_univ d, ?_⟩)
    exact Finset.sum_pos' (fun j _ => rexp_nonneg _ _) ⟨i, Finset.mem_univ i, rexp_pos hi _⟩
  unfold byParts whole
  rw [hsum, hwhole, hfac, hM, hm d, exp_sub (htop d j), exp_sub (htop d j), div_coe _ _ hpos, div_coe _ _ hpos, ← EReal.coe_mul,
    ← mul_assoc, rexp_mul]

end Row

end Cert.Proof.Softmax

end
-- ==== Proof.Payloads.lean ====
/-
# The kernel's vectors read at an index

Over the extended reals. The kernel works on its block of 1024 rows as 8 × 128 rows: row `128 a + b` of the block is `(a, b)`. Each
payload is read here at an index written by its coordinates, as a maximum or a sum over the columns (or over the slots).
-/
module

public import proofs.«01_k».proof.Proof.Gen.KernelIdeal.Skeleton
public import proofs.«01_k».proof.Proof.Softmax
public import Idealize.ShloMosaic.Lib.ValueIdx
public import Idealize.ShloMosaic.Lib.Pipeline.Value
public import Idealize.ShloMosaic.PureOps.Ideal.Laws

@[expose] public section

noncomputable section

namespace Cert.KernelIdeal.Payloads

open Cert.KernelIdeal Cert.KernelIdeal.Gen
open Idealize.ShloMosaic Idealize.ShloMosaic.ValueIdx
open scoped BigOperators

/-- Row `(a, b)` of the block. -/
def row (a : Fin 8) (b : Fin 128) : Fin 1024 := ⟨128 * a.val + b.val, by have := a.isLt; have := b.isLt; omega⟩

/-- Every row is one of those. -/
theorem exists_row (r : Fin 1024) : ∃ a b, r = row a b :=
  ⟨⟨r.val / 128, by have := r.isLt; omega⟩, ⟨r.val % 128, Nat.mod_lt _ (by decide)⟩, Fin.ext (Nat.div_add_mod r.val 128).symm⟩

/-- The word of −∞ is the least extended real. -/
theorem ofBits_neg_inf : (FloatOps.ofBits .f32 0xFF800000#32 : Ideal .f32) = (⊥ : EReal) := by
  show Ideal.ofBits .f32 0xFF800000#32 = ⊥
  simp [Ideal.ofBits, Ideal.ieee]

/-! ## Layout -/

/-- The block seen as 8 × 128 rows, -/
theorem cast_rows {α : Type} (x : S1024x1024.Idx → α) (h : S1024x1024.ShapeCasts S8x128x1024) (a : Fin 8) (b : Fin 128) (j : Fin 1024) :
    shapeCast S8x128x1024 x h (ix3 a b j) = x (ix2 (row a b) j) :=
  shapeCast_apply x h _ _ (by
    rw [Shape.rowMajor_val_two, Shape.rowMajor_val_three]
    show (128 * a.val + b.val) * 1024 + j.val = (a.val * 128 + b.val) * 1024 + j.val
    omega)

/-- and back. -/
theorem cast_flat {α : Type} (x : S8x128x1024.Idx → α) (h : S8x128x1024.ShapeCasts S1024x1024) (a : Fin 8) (b : Fin 128) (j : Fin 1024) :
    shapeCast S1024x1024 x h (ix2 (row a b) j) = x (ix3 a b j) :=
  shapeCast_apply x h _ _ (by
    rw [Shape.rowMajor_val_two, Shape.rowMajor_val_three]
    show (a.val * 128 + b.val) * 1024 + j.val = (128 * a.val + b.val) * 1024 + j.val
    omega)

/-- A number per row, repeated along the row's columns. -/
theorem along_columns {α : Type} (x : S8x128.Idx → α) (h : S8x128.ShapeCasts S8x128x1) (h' : S8x128x1.Broadcasts S8x128x1024)
    (a : Fin 8) (b : Fin 128) (j : Fin 1024) :
    broadcastTo S8x128x1024 (shapeCast S8x128x1 x h) h' (ix3 a b j) = x (ix2 a b) := by
  rw [broadcastTo_apply (k := ix3 a b (0 : Fin 1)) _ _ _ (by
    intro d
    match d with
    | ⟨0, _⟩ => rfl
    | ⟨1, _⟩ => rfl
    | ⟨2, _⟩ => rfl)]
  exact shapeCast_apply x h _ _ (by
    rw [Shape.rowMajor_val_two, Shape.rowMajor_val_three]
    show a.val * 128 + b.val = (a.val * 128 + b.val) * 1 + 0
    omega)

/-- A number per row, repeated along the slots. -/
theorem along_slots {α : Type} (x : S8x128.Idx → α) (h : S8x128.ShapeCasts S1x8x128) (h' : S1x8x128.Broadcasts S32x8x128)
    (o : Fin 32) (a : Fin 8) (b : Fin 128) :
    broadcastTo S32x8x128 (shapeCast S1x8x128 x h) h' (ix3 o a b) = x (ix2 a b) := by
  rw [broadcastTo_apply (k := ix3 (0 : Fin 1) a b) _ _ _ (by
    intro d
    match d with
    | ⟨0, _⟩ => rfl
    | ⟨1, _⟩ => rfl
    | ⟨2, _⟩ => rfl)]
  exact shapeCast_apply x h _ _ (by
    rw [Shape.rowMajor_val_two, Shape.rowMajor_val_three]
    show a.val * 128 + b.val = (0 * 8 + a.val) * 128 + b.val
    omega)

/-- A statistic as it lies in a slot. -/
theorem cast_slot {α : Type} (x : S8x128.Idx → α) (h : S8x128.ShapeCasts S1x1x8x128) (a : Fin 8) (b : Fin 128) :
    shapeCast S1x1x8x128 x h (ix4 (0 : Fin 1) (0 : Fin 1) a b) = x (ix2 a b) :=
  shapeCast_apply x h _ _ (by
    rw [Shape.rowMajor_val_two, Shape.rowMajor_val_four]
    show a.val * 128 + b.val = ((0 * 1 + 0) * 8 + a.val) * 128 + b.val
    omega)

/-- A plane of slots without its unit axis. -/
theorem cast_plane {α : Type} (x : S32x1x8x128.Idx → α) (h : S32x1x8x128.ShapeCasts S32x8x128) (o : Fin 32) (a : Fin 8) (b : Fin 128) :
    shapeCast S32x8x128 x h (ix3 o a b) = x (ix4 o (0 : Fin 1) a b) :=
  shapeCast_apply x h _ _ (by
    rw [Shape.rowMajor_val_three, Shape.rowMajor_val_four]
    show ((o.val * 1 + 0) * 8 + a.val) * 128 + b.val = (o.val * 8 + a.val) * 128 + b.val
    omega)

/-! ## Reductions -/

/-- The maximum along the columns, -/
theorem max_columns (x : FVec Ideal S8x128x1024 .f32) (h : S8x128x1024.Reduces [2] S8x128) (hφ : FKind.Formats .f32)
    (hacc : (0xFF800000#32 : BitVec 32) = FKind.maximumf.neutral .f32 hφ) (a : Fin 8) (b : Fin 128) :
    multiReduction .maximumf [2] S8x128 x 0xFF800000#32 h hφ hacc (ix2 a b) = Finset.univ.sup fun j : Fin 1024 => (x (ix3 a b j) : EReal) := by
  rw [Ideal.multiReduction_maximumf_single, ofBits_neg_inf]
  refine congrArg (Finset.fold max (⊥ : EReal) · Finset.univ) (funext fun j => congrArg x ?_)
  exact funext fun d => match d with
    | ⟨0, _⟩ => rfl
    | ⟨1, _⟩ => rfl
    | ⟨2, _⟩ => rfl

/-- the sum along the columns, -/
theorem sum_columns (x : FVec Ideal S8x128x1024 .f32) (h : S8x128x1024.Reduces [2] S8x128) (hφ : FKind.Formats .f32)
    (hacc : (0x00000000#32 : BitVec 32) = FKind.add.neutral .f32 hφ) (a : Fin 8) (b : Fin 128) :
    multiReduction .add [2] S8x128 x 0x00000000#32 h hφ hacc (ix2 a b) = ∑ j : Fin 1024, (x (ix3 a b j) : EReal) := by
  rw [Ideal.multiReduction_add_single]
  refine Finset.sum_congr rfl fun j _ => congrArg x ?_
  exact funext fun d => match d with
    | ⟨0, _⟩ => rfl
    | ⟨1, _⟩ => rfl
    | ⟨2, _⟩ => rfl

/-- the maximum along the slots, -/
theorem max_slots (x : FVec Ideal S32x8x128 .f32) (h : S32x8x128.Reduces [0] S8x128) (hφ : FKind.Formats .f32)
    (hacc : (0xFF800000#32 : BitVec 32) = FKind.maximumf.neutral .f32 hφ) (a : Fin 8) (b : Fin 128) :
    multiReduction .maximumf [0] S8x128 x 0xFF800000#32 h hφ hacc (ix2 a b) = Finset.univ.sup fun o : Fin 32 => (x (ix3 o a b) : EReal) := by
  rw [Ideal.multiReduction_maximumf_single, ofBits_neg_inf]
  refine congrArg (Finset.fold max (⊥ : EReal) · Finset.univ) (funext fun j => congrArg x ?_)
  exact funext fun d => match d with
    | ⟨0, _⟩ => rfl
    | ⟨1, _⟩ => rfl
    | ⟨2, _⟩ => rfl

/-- the sum along the slots. -/
theorem sum_slots (x : FVec Ideal S32x8x128 .f32) (h : S32x8x128.Reduces [0] S8x128) (hφ : FKind.Formats .f32)
    (hacc : (0x00000000#32 : BitVec 32) = FKind.add.neutral .f32 hφ) (a : Fin 8) (b : Fin 128) :
    multiReduction .add [0] S8x128 x 0x00000000#32 h hφ hacc (ix2 a b) = ∑ o : Fin 32, (x (ix3 o a b) : EReal) := by
  rw [Ideal.multiReduction_add_single]
  refine Finset.sum_congr rfl fun j _ => congrArg x ?_
  exact funext fun d => match d with
    | ⟨0, _⟩ => rfl
    | ⟨1, _⟩ => rfl
    | ⟨2, _⟩ => rfl

/-! ## The payloads -/

section Block

variable (x : Vec Ideal S1024x1024 .f32)

/-- The entries of row `r` of a block. -/
def entries (r : Fin 1024) (j : Fin 1024) : EReal := x (ix2 r j)

/-- The maximum of a row of a block, -/
def rowMax (r : Fin 1024) : EReal := Finset.univ.sup (entries x r)

/-- and the sum of its exponentials below that. -/
def rowSum (r : Fin 1024) : EReal := ∑ j, Ideal.exp (entries x r j - rowMax x r)

theorem pay1_apply (a : Fin 8) (b : Fin 128) (j : Fin 1024) : k0_pay1 x (ix3 a b j) = entries x (row a b) j := by
  unfold k0_pay1
  rw [cast_rows, shapeCast_self]
  rfl

theorem pay2_apply (a : Fin 8) (b : Fin 128) : k0_pay2 x (ix2 a b) = rowMax x (row a b) := by
  unfold k0_pay2
  dsimp only
  refine (max_columns _ _ _ _ a b).trans ?_
  exact congrArg (Finset.univ.sup ·) (funext fun j => pay1_apply x a b j)

theorem pay4_apply (a : Fin 8) (b : Fin 128) (j : Fin 1024) :
    k0_pay4 (k0_pay1 x) (k0_pay2 x) (ix3 a b j) = Ideal.exp (entries x (row a b) j - rowMax x (row a b)) := by
  unfold k0_pay4
  show Ideal.exp (k0_pay1 x (ix3 a b j) - broadcastTo S8x128x1024 (shapeCast S8x128x1 (k0_pay2 x) shapeCasts_S8x128_S8x128x1) broadcasts_S8x128x1_S8x128x1024 (ix3 a b j)) = _
  rw [along_columns, pay1_apply, pay2_apply]

theorem pay5_apply (a : Fin 8) (b : Fin 128) (j : Fin 1024) :
    k0_pay5 (k0_pay1 x) (k0_pay2 x) (ix2 (row a b) j) = Ideal.exp (entries x (row a b) j - rowMax x (row a b)) := by
  unfold k0_pay5
  rw [cast_flat, pay4_apply]

theorem pay3_apply (a : Fin 8) (b : Fin 128) : k0_pay3 x (ix4 (0 : Fin 1) (0 : Fin 1) a b) = rowMax x (row a b) := by
  unfold k0_pay3
  rw [cast_slot, pay2_apply]

theorem pay6_apply (a : Fin 8) (b : Fin 128) :
    k0_pay6 (k0_pay1 x) (k0_pay2 x) (ix4 (0 : Fin 1) (0 : Fin 1) a b) = rowSum x (row a b) := by
  unfold k0_pay6
  dsimp only
  rw [cast_slot]
  refine (sum_columns _ _ _ _ a b).trans ?_
  exact Finset.sum_congr rfl fun j _ => pay4_apply x a b j

end Block

/-- The last payload: the row's own exponential `e` times the factor made from the slots' maxima `M` and sums `S` and the device's own
maximum. -/
theorem pay9_apply (mx : FVec Ideal S8x128 .f32) (M S : Vec Ideal S32x1x8x128 .f32) (e : Vec Ideal S1024x1024 .f32)
    (a : Fin 8) (b : Fin 128) (j : Fin 1024) (g : EReal)
    (hg : (Finset.univ.sup fun o : Fin 32 => (M (ix4 o (0 : Fin 1) a b) : EReal)) = g) :
    k0_pay9 mx (k0_pay7 M) (k0_pay8 S) e (ix2 (row a b) j)
      = (e (ix2 (row a b) j) : EReal)
        * Ideal.div (Ideal.exp ((mx (ix2 a b) : EReal) - g)) (∑ o : Fin 32, (S (ix4 o (0 : Fin 1) a b) : EReal) * Ideal.exp ((M (ix4 o (0 : Fin 1) a b) : EReal) - g)) := by
  have h7 : ∀ o : Fin 32, k0_pay7 M (ix3 o a b) = M (ix4 o (0 : Fin 1) a b) := fun o => by
    unfold k0_pay7; exact cast_plane _ _ o a b
  have h8 : ∀ o : Fin 32, k0_pay8 S (ix3 o a b) = S (ix4 o (0 : Fin 1) a b) := fun o => by
    unfold k0_pay8; exact cast_plane _ _ o a b
  have hm : multiReduction .maximumf [0] S8x128 (k0_pay7 M) 0xFF800000#32 reduces_S32x8x128_S8x128 (.inl rfl) rfl (ix2 a b) = g := by
    refine (max_slots _ _ _ _ a b).trans (Eq.trans ?_ hg)
    exact congrArg (Finset.univ.sup ·) (funext fun o => h7 o)
  unfold k0_pay9
  dsimp only
  rw [cast_flat, mulf_apply, cast_rows, shapeCast_self, along_columns, divf_apply]
  refine congrArg₂ (fun u v : EReal => (e (ix2 (row a b) j) : EReal) * Ideal.div u v) ?_
    ((sum_slots _ _ _ _ a b).trans (Finset.sum_congr rfl fun o _ => ?_))
  · exact congrArg (fun v : EReal => Ideal.exp ((mx (ix2 a b) : EReal) - v)) hm
  · rw [mulf_apply, h8]
    refine congrArg (fun v : EReal => (S (ix4 o (0 : Fin 1) a b) : EReal) * Ideal.exp v) ?_
    rw [subf_apply, along_slots, h7]
    exact congrArg (fun v : EReal => (M (ix4 o (0 : Fin 1) a b) : EReal) - v) hm

end Cert.KernelIdeal.Payloads

end
-- ==== Proof.KernelValue.lean ====
/-
# What a device writes

Over the extended reals: entry `(r, j)` of the block a device writes is the softmax by parts (`Softmax.byParts`) of row `r`, the parts
being the row's pieces on the 32 devices.
-/
module

public import proofs.«01_k».proof.Proof.Payloads
public import proofs.«01_k».proof.Proof.Launch
public import Idealize.ShloMosaic.Lib.Pipeline.ValueKit.Geometry

@[expose] public section

noncomputable section

namespace Cert.KernelIdeal.Run

open Cert.KernelIdeal Cert.KernelIdeal.Gen Cert.KernelIdeal.Payloads
open Idealize.ShloMosaic Idealize.ShloMosaic.ValueIdx Idealize.SL.Sem
open Cert.Proof (Softmax.partMax Softmax.partSum Softmax.byParts)
open scoped BigOperators

/-- The offsets from a device name all devices. -/
def fromDev (c : Dev nD) : Fin 32 ≃ Dev nD :=
  Equiv.ofBijective (peer c) ((Finite.injective_iff_bijective).mp (by revert c; decide +kernel))

theorem fromDev_apply (c : Dev nD) (o : Fin 32) : fromDev c o = peer c o := rfl

/-- A maximum over the offsets is one over the devices. -/
theorem sup_offsets (c : Dev nD) (f : Dev nD → EReal) : (Finset.univ.sup fun o : Fin 32 => f (peer c o)) = Finset.univ.sup f := by
  rw [Finset.sup_univ_eq_iSup, Finset.sup_univ_eq_iSup]
  exact (fromDev c).iSup_comp (g := f)

/-- A sum over the offsets is one over the devices. -/
theorem sum_offsets (c : Dev nD) (f : Dev nD → EReal) : ∑ o : Fin 32, f (peer c o) = ∑ d, f d :=
  Equiv.sum_comp (fromDev c) f

variable (m : (ℓ : Loc nD τ sig) → Buf (Elt Ideal) ℓ) (ρ : Dev nD → PrngReg)

/-- The pieces of row `r` on the devices. -/
def pieces (r : Fin 1024) (d : Dev nD) (j : Fin 1024) : EReal := entries (xstg m ρ d) r j

theorem rM_emb (o : Fin 32) (a : Fin 8) (b : Fin 128) : rAM.emb (ix4 o (0 : Fin 1) a b) = ix4 o (0 : Fin 2) a b :=
  funext fun d => Fin.ext (match d with
    | ⟨0, _⟩ => (show 0 + 1 * o.val = o.val by omega)
    | ⟨1, _⟩ => rfl
    | ⟨2, _⟩ => (show 0 + 1 * a.val = a.val by omega)
    | ⟨3, _⟩ => (show 0 + 1 * b.val = b.val by omega))

theorem rS_emb (o : Fin 32) (a : Fin 8) (b : Fin 128) : rAS.emb (ix4 o (0 : Fin 1) a b) = ix4 o (1 : Fin 2) a b :=
  funext fun d => Fin.ext (match d with
    | ⟨0, _⟩ => (show 0 + 1 * o.val = o.val by omega)
    | ⟨1, _⟩ => rfl
    | ⟨2, _⟩ => (show 0 + 1 * a.val = a.val by omega)
    | ⟨3, _⟩ => (show 0 + 1 * b.val = b.val by omega))

theorem inSlot_ix (o : Fin 32) (p : Fin 2) (a : Fin 8) (b : Fin 128) : inSlot (ix4 o p a b) = ix4 (0 : Fin 1) (0 : Fin 1) a b :=
  funext fun d => match d with
    | ⟨0, _⟩ => rfl
    | ⟨1, _⟩ => rfl
    | ⟨2, _⟩ => rfl
    | ⟨3, _⟩ => rfl

/-- Reading the statistics at a rectangle of slots reads them under it. -/
theorem read_stats (c : Dev nD) (r : Rect S32x2x8x128) (k : r.shape.Idx) :
    sM.view.readAt (Elt Ideal) r.toLoadRect (stats m ρ c) k = (stats m ρ c : S32x2x8x128.Idx → Elt Ideal .f32) (r.emb k) := rfl

/-- A number of the statistics, by its coordinates. -/
theorem stats_ix (c : Dev nD) (o : Fin 32) (p : Fin 2) (a : Fin 8) (b : Fin 128) :
    (stats m ρ c : S32x2x8x128.Idx → Elt Ideal .f32) (ix4 o p a b) = stat p (xstg m ρ (peer c o)) (ix4 (0 : Fin 1) (0 : Fin 1) a b) := by
  rw [← inSlot_ix o p a b]
  rfl

/-- Slot `o` of the gathered maxima holds the maximum of the piece on device `peer c o`, -/
theorem allMax_apply (c : Dev nD) (o : Fin 32) (a : Fin 8) (b : Fin 128) :
    (allMax m ρ c (ix4 o (0 : Fin 1) a b) : EReal) = Softmax.partMax (pieces m ρ (row a b)) (peer c o) := by
  refine (read_stats m ρ c rAM _).trans ((congrArg (stats m ρ c : S32x2x8x128.Idx → Elt Ideal .f32) (rM_emb o a b)).trans ?_)
  rw [stats_ix]
  exact pay3_apply _ a b

/-- and slot `o` of the gathered sums that piece's sum. -/
theorem allSum_apply (c : Dev nD) (o : Fin 32) (a : Fin 8) (b : Fin 128) :
    (allSum m ρ c (ix4 o (0 : Fin 1) a b) : EReal) = Softmax.partSum (pieces m ρ (row a b)) (peer c o) := by
  refine (read_stats m ρ c rAS _).trans ((congrArg (stats m ρ c : S32x2x8x128.Idx → Elt Ideal .f32) (rS_emb o a b)).trans ?_)
  rw [stats_ix]
  exact pay6_apply _ a b

/-- What a device writes, entry by entry. -/
theorem outAt_apply (c : Dev nD) (r : Fin 1024) (j : Fin 1024) :
    ((outAt m ρ c : Vec Ideal S1024x1024 .f32) (ix2 r j) : EReal) = Softmax.byParts (pieces m ρ r) c j := by
  obtain ⟨a, b, rfl⟩ := exists_row r
  have hg : (Finset.univ.sup fun o : Fin 32 => (allMax m ρ c (ix4 o (0 : Fin 1) a b) : EReal)) = Cert.Proof.Softmax.allMax (pieces m ρ (row a b)) := by
    rw [funext fun o => allMax_apply m ρ c o a b]
    exact sup_offsets c _
  refine (pay9_apply (k0_pay2 (xstg m ρ c)) (allMax m ρ c) (allSum m ρ c) _ a b j _ hg).trans ?_
  rw [pay5_apply, pay2_apply, funext fun o => congrArg₂ (fun u v : EReal => v * Ideal.exp (u - Cert.Proof.Softmax.allMax (pieces m ρ (row a b)))) (allMax_apply m ρ c o a b) (allSum_apply m ρ c o a b)]
  rw [sum_offsets c fun d => Softmax.partSum (pieces m ρ (row a b)) d * Ideal.exp (Softmax.partMax (pieces m ρ (row a b)) d - Cert.Proof.Softmax.allMax (pieces m ρ (row a b)))]
  rfl

/-- The piece of a row that a device is given is what its argument holds. -/
theorem xstg_eq (c : Dev nD) : xstg m ρ c = m ((c.tc : Thread nD τ).loc main_arg0) := by
  funext i
  show m ((c.tc : Thread nD τ).loc main_arg0) ((win0_0.blk t0_0).view.emb i) = _
  congr 1
  exact funext fun d => Fin.ext (match d with
    | ⟨0, _⟩ => (show 0 + 1 * (i (0 : Fin 2)).val = (i (0 : Fin 2)).val by omega)
    | ⟨1, _⟩ => (show 0 + 1 * (i (1 : Fin 2)).val = (i (1 : Fin 2)).val by omega))

/-- The result array at the end is what the device wrote. -/
theorem finalA_out (c : Dev nD) : finalA m ρ c (1 : Fin 2) = outAt m ρ c := by
  refine (dats m ρ 0 c).arrAt_eq_of_after_last (1 : Fin 2) t0_0 (by decide +kernel) _ fun j => ?_
  blk_simp
  rfl

end Cert.KernelIdeal.Run

end
-- ==== Proof.Value.lean ====
/-
# The kernel computes the softmax of the rows

Over the extended reals, from memories where device `c` holds columns `1024 c, …, 1024 c + 1023` of the reference's array and where each
device's part of each row has a finite maximum: the kernel and the reference run, and device `c` ends holding those columns of the
reference's result.
-/
module

public import proofs.«01_k».proof.Proof.Frames
public import proofs.«01_k».proof.Proof.KernelValue
public import Idealize.ShloMosaic.Lib.IdealHost
public import Idealize.ShloMosaic.Lib.Layout

@[expose] public section

noncomputable section

namespace Cert.Proof

open Idealize.ShloMosaic Idealize.ShloMosaic.ValueIdx Idealize.SL.Sem
open Cert.KernelIdeal.Payloads (entries ofBits_neg_inf)
open scoped BigOperators

/-! ## The side conditions of the precondition -/

instance preFacts : Cert.Pre_rows_finite_KernelIdeal.Facts where
  reducesTo_S1024x1024_S1024_d1 := by decide
  h_S_ := by decide
  bcast_S_S1024 := by decide

instance preFactsR : Cert.Pre_rows_finite_ReferenceIdeal.Facts where
  reducesTo_S1024x32768_S1024_d1 := by decide
  h_S_ := by decide
  bcast_S_S1024 := by decide

/-! ## The reference's operations at an index -/

section Host

variable {n : ℕ} (x : FVec Ideal ⟨2, ![1024, n]⟩ .f32)

theorem lift_columns (h : Shape.Reduces ⟨2, ![1024, n]⟩ [1] ⟨1, ![1024]⟩) (r : Fin 1024) (k : Fin n) : h.lift (ix1 r) k = ix2 r k :=
  funext fun d => match d with
    | ⟨0, _⟩ => rfl
    | ⟨1, _⟩ => rfl

/-- The host's maximum along the columns, -/
theorem host_max (h' : Shape.ReducesTo ⟨2, ![1024, n]⟩ [1] ⟨1, ![1024]⟩) (h : Shape.Reduces ⟨2, ![1024, n]⟩ [1] ⟨1, ![1024]⟩)
    (hu : 0 < (⟨0, ![]⟩ : Shape).numel) (r : Fin 1024) :
    Host.reduce (FloatOps.maximumf (F := Ideal) (φ := .f32)) x (constant (F := Ideal) ⟨0, ![]⟩ .f32 0xFF800000#32) h' hu (ix1 r)
      = Finset.univ.sup fun k : Fin n => (x (ix2 r k) : EReal) := by
  show Host.reduce (max : EReal → EReal → EReal) x (constant (F := Ideal) ⟨0, ![]⟩ .f32 0xFF800000#32) h' hu (ix1 r) = _
  rw [Host.reduce_eq_fold_single (max : EReal → EReal → EReal) x _ h' h hu]
  show Finset.fold max (FloatOps.ofBits (F := Ideal) .f32 0xFF800000#32 : EReal) _ _ = _
  rw [ofBits_neg_inf]
  exact congrArg (Finset.fold max (⊥ : EReal) · Finset.univ) (funext fun k => congrArg x (lift_columns h r k))

/-- and its sum. -/
theorem host_sum (h' : Shape.ReducesTo ⟨2, ![1024, n]⟩ [1] ⟨1, ![1024]⟩) (h : Shape.Reduces ⟨2, ![1024, n]⟩ [1] ⟨1, ![1024]⟩)
    (hu : 0 < (⟨0, ![]⟩ : Shape).numel) (r : Fin 1024) :
    (Host.reduceAdd x (constant ⟨0, ![]⟩ .f32 0x00000000#32) h' hu (ix1 r) : EReal) = ∑ k : Fin n, (x (ix2 r k) : EReal) := by
  rw [hostReduceAdd_apply, Ideal.hostReduceAdd_single h' h]
  have h0 : (constant (F := Ideal) ⟨0, ![]⟩ .f32 0x00000000#32 (Shape.Idx.first hu) : EReal) = 0 := Ideal.ofBits_zero_f32
  rw [h0, zero_add]
  exact Finset.sum_congr rfl fun k _ => congrArg x (lift_columns h r k)

end Host

/-- A number per row, repeated along the row's columns. -/
theorem host_along (v : FVec Ideal ⟨1, ![1024]⟩ .f32) (h : Shape.BroadcastsInDim ⟨1, ![1024]⟩ ⟨2, ![1024, 1]⟩ ![0])
    (h' : Shape.BroadcastsInDim ⟨2, ![1024, 1]⟩ ⟨2, ![1024, 32768]⟩ ![0, 1]) (r : Fin 1024) (k : Fin 32768) :
    broadcastInDim ⟨2, ![1024, 32768]⟩ ![0, 1] h' (broadcastInDim ⟨2, ![1024, 1]⟩ ![0] h v) (ix2 r k) = v (ix1 r) := by
  rw [broadcastInDim_apply (k := ix2 r (0 : Fin 1)) _ _ _ _ (by
    intro d
    match d with
    | ⟨0, _⟩ => rfl
    | ⟨1, _⟩ => rfl)]
  exact broadcastInDim_apply _ _ _ _ _ (by
    intro d
    match d with
    | ⟨0, _⟩ => rfl)

/-! ## The columns of the whole array -/

/-- Column `j` of part `d`, in the whole array. -/
def col (d : Fin 32) (j : Fin 1024) : Fin 32768 := ⟨d.val * 1024 + j.val, by have := d.isLt; have := j.isLt; omega⟩

/-- Every column is one of those, once. -/
def cols : Fin 32 × Fin 1024 ≃ Fin 32768 where
  toFun p := col p.1 p.2
  invFun k := (⟨k.val / 1024, by have := k.isLt; omega⟩, ⟨k.val % 1024, Nat.mod_lt _ (by decide)⟩)
  left_inv p := by
    have h1 := p.1.isLt
    have h2 := p.2.isLt
    refine Prod.ext (Fin.ext ?_) (Fin.ext ?_)
    · show (p.1.val * 1024 + p.2.val) / 1024 = p.1.val; omega
    · show (p.1.val * 1024 + p.2.val) % 1024 = p.2.val; omega
  right_inv k := Fin.ext (show k.val / 1024 * 1024 + k.val % 1024 = k.val by omega)

/-- A maximum over the columns is the maximum over the parts of the maxima over each. -/
theorem sup_cols (f : Fin 32768 → EReal) : Finset.univ.sup f = Finset.univ.sup fun d => Finset.univ.sup fun j => f (col d j) := by
  simp only [Finset.sup_univ_eq_iSup]
  rw [← cols.iSup_comp (g := f), iSup_prod]
  rfl

/-- A sum over the columns is one over the parts' columns. -/
theorem sum_cols (f : Fin 32768 → EReal) : ∑ k, f k = ∑ p : Fin 32 × Fin 1024, f (col p.1 p.2) :=
  (Equiv.sum_comp cols f).symm

/-! ## The reference -/

open Cert.ReferenceIdeal Cert.ReferenceIdeal.Gen in
/-- What the reference computes from its array. -/
def refOut (X : FVec Ideal ⟨2, ![1024, 32768]⟩ .f32) : FVec Ideal ⟨2, ![1024, 32768]⟩ .f32 :=
  Host.divf (Host.exp (subf X (broadcastInDim S1024x32768 ![0, 1] bcast_S1024x1_S1024x32768_0_1 (broadcastInDim S1024x1 ![0] bcast_S1024_S1024x1_0 (Host.reduce FloatOps.maximumf X (constant S_ .f32 0xFF800000#32) reducesTo_S1024x32768_S1024_d1 h_S_))))) (broadcastInDim S1024x32768 ![0, 1] bcast_S1024x1_S1024x32768_0_1 (broadcastInDim S1024x1 ![0] bcast_S1024_S1024x1_0 (Host.reduceAdd (Host.exp (subf X (broadcastInDim S1024x32768 ![0, 1] bcast_S1024x1_S1024x32768_0_1 (broadcastInDim S1024x1 ![0] bcast_S1024_S1024x1_0 (Host.reduce FloatOps.maximumf X (constant S_ .f32 0xFF800000#32) reducesTo_S1024x32768_S1024_d1 h_S_))))) (constant S_ .f32 0x00000000#32) reducesTo_S1024x32768_S1024_d1 h_S_)))

/-- The reference's exponential at an index. -/
theorem ref_exp (X : FVec Ideal ⟨2, ![1024, 32768]⟩ .f32) (v : FVec Ideal ⟨1, ![1024]⟩ .f32)
    (h : Shape.BroadcastsInDim ⟨1, ![1024]⟩ ⟨2, ![1024, 1]⟩ ![0])
    (h' : Shape.BroadcastsInDim ⟨2, ![1024, 1]⟩ ⟨2, ![1024, 32768]⟩ ![0, 1]) (r : Fin 1024) (k : Fin 32768) (M : EReal) (hM : v (ix1 r) = M) :
    (Host.exp (subf X (broadcastInDim ⟨2, ![1024, 32768]⟩ ![0, 1] h' (broadcastInDim ⟨2, ![1024, 1]⟩ ![0] h v))) (ix2 r k) : EReal)
      = Ideal.exp ((X (ix2 r k) : EReal) - M) := by
  show Ideal.exp ((X (ix2 r k) : EReal) - broadcastInDim ⟨2, ![1024, 32768]⟩ ![0, 1] h' (broadcastInDim ⟨2, ![1024, 1]⟩ ![0] h v) (ix2 r k)) = _
  rw [host_along, hM]

/-- At every index it is the softmax of the row. -/
theorem refOut_apply (X : FVec Ideal ⟨2, ![1024, 32768]⟩ .f32) (r : Fin 1024) (d : Fin 32) (j : Fin 1024) :
    (refOut X (ix2 r (col d j)) : EReal) = Softmax.whole (fun d j => (X (ix2 r (col d j)) : EReal)) d j := by
  have hM : ∀ (h' : Shape.ReducesTo ⟨2, ![1024, 32768]⟩ [1] ⟨1, ![1024]⟩) (hu : 0 < (⟨0, ![]⟩ : Shape).numel),
      Host.reduce (FloatOps.maximumf (F := Ideal) (φ := .f32)) X (constant (F := Ideal) ⟨0, ![]⟩ .f32 0xFF800000#32) h' hu (ix1 r)
      = Softmax.allMax (fun d j => (X (ix2 r (col d j)) : EReal)) := fun h' hu =>
    (host_max X h' (by decide) hu r).trans (sup_cols fun k => X (ix2 r k))
  unfold refOut
  rw [hostDivf_apply]
  refine congrArg₂ (fun u v : EReal => Ideal.div u v) (ref_exp X _ _ _ r _ _ (hM _ _)) ?_
  rw [host_along, host_sum _ _ (by decide), sum_cols]
  exact Finset.sum_congr rfl fun p _ => ref_exp X _ _ _ r _ _ (hM _ _)

/-! ## The precondition -/

/-- An absolute value below `⊤` is a real number's. -/
theorem real_of_abs {x : EReal} (h : max x (-x) < ⊤) : ∃ r : ℝ, x = r := by
  induction x with
  | bot => simp at h
  | coe r => exact ⟨r, rfl⟩
  | top => simp at h

/-- So is an entry of a vector whose absolute value the host finds below `⊤`. -/
theorem real_of_olt (v : FVec Ideal ⟨1, ![1024]⟩ .f32) (i : (⟨1, ![1024]⟩ : Shape).Idx) (t : Ideal .f32) (ht : t = (⊤ : EReal))
    (h : FloatOps.cmpf .olt (Host.absf v i) t = 1#1) : ∃ r : ℝ, (v i : EReal) = r := by
  subst ht
  refine real_of_abs ?_
  by_contra hn
  have h2 : BitVec.ofBool (decide (max (v i : EReal) (-(v i : EReal)) < ⊤)) = 1#1 := h
  rw [decide_eq_false hn] at h2
  exact absurd h2 (by decide)

/-- The precondition says that every row of a block has a real maximum. -/
theorem real_of_pre (x : FVec Ideal ⟨2, ![1024, 1024]⟩ .f32) (h : Cert.Pre_rows_finite_KernelIdeal.fn (F := Ideal) x = fun _ => 1#1) (r : Fin 1024) :
    ∃ a : ℝ, (Finset.univ.sup fun j : Fin 1024 => (x (ix2 r j) : EReal)) = a := by
  have h1 := congrFun h (ix1 r)
  unfold Cert.Pre_rows_finite_KernelIdeal.fn at h1
  dsimp only at h1
  rw [cmpf_apply, broadcastInDim_scalar_apply] at h1
  have ht : (constant (F := Ideal) ⟨0, ![]⟩ .f32 0x7F800000#32 ix0 : EReal) = ⊤ := by
    show Ideal.ofBits .f32 0x7F800000#32 = ⊤
    simp [Ideal.ofBits, Ideal.ieee]
  obtain ⟨a, ha⟩ := real_of_olt _ _ _ ht h1
  exact ⟨a, (host_max x _ (by decide) _ r).symm.trans ha⟩

/-! ## The claim -/

/-- A device's block of the whole array, at an index. -/
theorem block_col {α : Type} (c : Fin 32) (v : (⟨2, ![1024, 32768]⟩ : Shape).Idx → α)
    (h : Layout.Tiles ⟨2, ![1024, 1024]⟩ ⟨2, ![1024, 32768]⟩ 1 32) (r : Fin 1024) (j : Fin 1024) :
    Layout.block ⟨2, ![1024, 1024]⟩ ⟨2, ![1024, 32768]⟩ 1 32 c v h (ix2 r j) = v (ix2 r (col c j)) := by
  refine congrArg v (funext fun d => Fin.ext ?_)
  match d with
  | ⟨0, _⟩ => exact (Layout.idx_cols_val h c (ix2 r j)).1
  | ⟨1, _⟩ => exact (Layout.idx_cols_val h c (ix2 r j)).2

section Device

variable (m : (ℓ : Loc Cert.KernelIdeal.nD Cert.KernelIdeal.τ Cert.KernelIdeal.sig) → Buf (Elt Ideal) ℓ)
  (ρ : Dev Cert.KernelIdeal.nD → PrngReg) (X : FVec Ideal ⟨2, ![1024, 32768]⟩ .f32)

/-- The pieces of the rows are the whole array's rows, cut. -/
theorem pieces_eq (h : Layout.Tiles ⟨2, ![1024, 1024]⟩ ⟨2, ![1024, 32768]⟩ 1 32)
    (harg : ∀ c : Dev Cert.KernelIdeal.nD, m ((c.tc : Thread Cert.KernelIdeal.nD Cert.KernelIdeal.τ).loc Cert.KernelIdeal.main_arg0)
      = Layout.block ⟨2, ![1024, 1024]⟩ ⟨2, ![1024, 32768]⟩ 1 32 c X h) (r : Fin 1024) :
    KernelIdeal.Run.pieces m ρ r = fun d j => (X (ix2 r (col d j)) : EReal) := by
  funext d j
  unfold KernelIdeal.Run.pieces entries
  rw [KernelIdeal.Run.xstg_eq, harg d]
  exact block_col d X h r j

/-- The precondition makes every part's maximum real. -/
theorem pieces_real (hpre : Cert.Pre_KernelIdeal_rows_finite_KernelIdeal m) (r : Fin 1024) (d : Dev Cert.KernelIdeal.nD) :
    ∃ a : ℝ, Softmax.partMax (KernelIdeal.Run.pieces m ρ r) d = a := by
  obtain ⟨a, ha⟩ := real_of_pre _ (hpre d) r
  refine ⟨a, Eq.trans ?_ ha⟩
  unfold Softmax.partMax KernelIdeal.Run.pieces entries
  rw [KernelIdeal.Run.xstg_eq]

/-- What a device writes is its block of what the reference computes. -/
theorem out_eq (hpre : Cert.Pre_KernelIdeal_rows_finite_KernelIdeal m) (h : Layout.Tiles ⟨2, ![1024, 1024]⟩ ⟨2, ![1024, 32768]⟩ 1 32)
    (harg : ∀ c : Dev Cert.KernelIdeal.nD, m ((c.tc : Thread Cert.KernelIdeal.nD Cert.KernelIdeal.τ).loc Cert.KernelIdeal.main_arg0)
      = Layout.block ⟨2, ![1024, 1024]⟩ ⟨2, ![1024, 32768]⟩ 1 32 c X h) (c : Dev Cert.KernelIdeal.nD) :
    (KernelIdeal.Run.outAt m ρ c : (⟨2, ![1024, 1024]⟩ : Shape).Idx → EReal)
      = Layout.block ⟨2, ![1024, 1024]⟩ ⟨2, ![1024, 32768]⟩ 1 32 c (refOut X) h := by
  refine funext fun (i : (⟨2, ![1024, 1024]⟩ : Shape).Idx) => ?_
  obtain ⟨r, j, rfl⟩ : ∃ (r j : Fin 1024), i = ix2 r j := ⟨i 0, i 1, eq_ix2 i⟩
  rw [block_col]
  refine (KernelIdeal.Run.outAt_apply m ρ c r j).trans (Eq.trans ?_ (refOut_apply X r c j).symm)
  rw [Softmax.byParts_eq_whole (pieces_real m ρ hpre r), pieces_eq m ρ X h harg]

end Device

/-- The kernel computes the reference. -/
theorem algebraic : Cert.algebraic_KernelIdeal_ReferenceIdeal_pre_rows_finite_KernelIdeal := fun m ρ m' ρ' hpre harg => by
  refine ⟨refOut (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun s h c =>
      ⟨((h.1 c (1 : Fin 2)).trans (KernelIdeal.Run.finalA_out m ρ c)).trans (out_eq m ρ _ hpre _ harg c),
        (h.1 c (0 : Fin 2)).trans (KernelIdeal.Run.finalA_x m ρ c)⟩) (KernelIdeal.Run.run_main m ρ)
  · exact (θ_run Cert.ReferenceIdeal.defs _ _).mono (fun s h => h 0) (Cert.ReferenceIdeal.Value.run m' ρ')

end Cert.Proof

end
-- ==== Proof.lean ====
/-
# The claim

Every part of `Cert.Claim`, gathered from the modules that prove them.
-/
module

public import proofs.«01_k».proof.Defs
public import proofs.«01_k».proof.Proof.Frames
public import proofs.«01_k».proof.Proof.Value

@[expose] public section

noncomputable section

namespace Cert.Proof

open Idealize.ShloMosaic Idealize.SL.Sem

/-- The frames of the three programs, that the idealization rewrote nothing, and that the kernel computes the reference. The frames hold
without the precondition, so also with it. -/
theorem claim : Cert.Claim :=
  ⟨Cert.Kernel.Gen.facts, Cert.KernelIdeal.Gen.facts, Cert.ReferenceIdeal.Gen.facts, preFacts, preFactsR,
    frame_kernel, frame_kernelIdeal, fun m ρ _ => frame_kernelIdeal m ρ trivial,
    frame_reference, fun m ρ _ => frame_reference m ρ trivial, trivial, algebraic⟩

end Cert.Proof

end
